-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v27_0) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S4x384x5760 : Shape := ⟨3, ![4, 384, 5760]⟩
abbrev S4x384x2880 : Shape := ⟨3, ![4, 384, 2880]⟩
abbrev S_ : Shape := ⟨0, ![]⟩
abbrev S5760x2880 : Shape := ⟨2, ![5760, 2880]⟩
abbrev S4x3x128x45x128 : Shape := ⟨5, ![4, 3, 128, 45, 128]⟩
abbrev S4x3x45 : Shape := ⟨3, ![4, 3, 45]⟩

class Facts : Prop where
  bitsLt_bf16_f32 : FTy.bits .bf16 < FTy.bits .f32
  shapeCasts_S4x384x5760_S4x3x128x45x128 : S4x384x5760.ShapeCasts S4x3x128x45x128
  reducesTo_S4x3x128x45x128_S4x3x45_d2_4 : S4x3x128x45x128.ReducesTo [2, 4] S4x3x45
  h_S_ : 0 < S_.numel
  bcast_S_S4x3x45 : S_.BroadcastsInDim S4x3x45 (![] : Fin 0 → Fin S4x3x45.rank)

variable [Facts]

def fn {F : FTy → Type} [FloatOps F] (main_arg0 : FVec F S4x384x5760 .bf16) (main_arg1 : FVec F S4x384x2880 .fp8e4m3) (main_arg2 : FVec F S_ .f32) (main_arg3 : FVec F S5760x2880 .fp8e4m3) (main_arg4 : FVec F S_ .f32) (main_arg5 : FVec F S5760x2880 .f32) : IVec S4x3x45 1 :=
  let main_v0 : FVec F S4x384x5760 .f32 := (extf .f32 · bitsLt_bf16_f32) main_arg0
  let main_v1 : FVec F S4x3x128x45x128 .f32 := shapeCast S4x3x128x45x128 main_v0 shapeCasts_S4x384x5760_S4x3x128x45x128
  let main_v2 : FVec F S4x3x128x45x128 .f32 := Host.absf main_v1
  let main_cst : FVec F S_ .f32 := constant S_ .f32 0xFF800000#32
  let main_v3 : FVec F S4x3x45 .f32 := (fun x v => Host.reduce FloatOps.maximumf x v reducesTo_S4x3x128x45x128_S4x3x45_d2_4 h_S_) main_v2 main_cst
  let main_cst_0 : FVec F S_ .f32 := constant S_ .f32 0x00000000#32
  let main_v4 : FVec F S4x3x45 .f32 := broadcastInDim S4x3x45 ![] bcast_S_S4x3x45 main_cst_0
  let main_v5 : IVec S4x3x45 1 := cmpf .oeq main_v3 main_v4
  let main_cst_1 : FVec F S_ .f32 := constant S_ .f32 0x37924925#32
  let main_v6 : FVec F S4x3x45 .f32 := broadcastInDim S4x3x45 ![] bcast_S_S4x3x45 main_cst_1
  let main_v7 : FVec F S4x3x45 .f32 := mulf main_v3 main_v6
  let main_cst_2 : FVec F S_ .f32 := constant S_ .f32 0x00800000#32
  let main_v8 : FVec F S4x3x45 .f32 := broadcastInDim S4x3x45 ![] bcast_S_S4x3x45 main_cst_2
  let main_v9 : IVec S4x3x45 1 := cmpf .oge main_v7 main_v8
  let main_cst_3 : FVec F S_ .f32 := constant S_ .f32 0x7F7FFFFF#32
  let main_v10 : FVec F S4x3x45 .f32 := broadcastInDim S4x3x45 ![] bcast_S_S4x3x45 main_cst_3
  let main_v11 : IVec S4x3x45 1 := cmpf .ole main_v3 main_v10
  let main_v12 : IVec S4x3x45 1 := andi main_v9 main_v11
  let main_v13 : IVec S4x3x45 1 := ori main_v5 main_v12
  main_v13
-- ==== Kernel.lean ====
abbrev S4x384x5760 : Shape := ⟨3, ![4, 384, 5760]⟩
abbrev S4x384x2880 : Shape := ⟨3, ![4, 384, 2880]⟩
abbrev S_ : Shape := ⟨0, ![]⟩
abbrev S5760x2880 : Shape := ⟨2, ![5760, 2880]⟩
abbrev S1 : Shape := ⟨1, ![1]⟩
abbrev S1536x5760 : Shape := ⟨2, ![1536, 5760]⟩
abbrev S4x2880x384 : Shape := ⟨3, ![4, 2880, 384]⟩
abbrev S2880x5760 : Shape := ⟨2, ![2880, 5760]⟩
abbrev S3x4x45 : Shape := ⟨3, ![3, 4, 45]⟩
abbrev S1x1 : Shape := ⟨2, ![1, 1]⟩
abbrev S1536x256 : Shape := ⟨2, ![1536, 256]⟩
abbrev S2880x256 : Shape := ⟨2, ![2880, 256]⟩
abbrev S2880x1536 : Shape := ⟨2, ![2880, 1536]⟩
abbrev S4 : Shape := ⟨1, ![4]⟩
abbrev S2880x384 : Shape := ⟨2, ![2880, 384]⟩
abbrev S1x2880x384 : Shape := ⟨3, ![1, 2880, 384]⟩
abbrev S128x128 : Shape := ⟨2, ![128, 128]⟩
abbrev S1x128x128 : Shape := ⟨3, ![1, 128, 128]⟩
abbrev S1x1x1 : Shape := ⟨3, ![1, 1, 1]⟩
abbrev S1x255 : Shape := ⟨2, ![1, 255]⟩
abbrev S256x256 : Shape := ⟨2, ![256, 256]⟩
abbrev S1536x128 : Shape := ⟨2, ![1536, 128]⟩
abbrev S2880x128 : Shape := ⟨2, ![2880, 128]⟩
abbrev S256x128 : Shape := ⟨2, ![256, 128]⟩
abbrev S4x3x45 : Shape := ⟨3, ![4, 3, 45]⟩

abbrev nBuf : Space → Nat
  | .hbm => 22
  | .vmem => 16
  | .smem => 2
  | _ => 0

abbrev bufTy : (tb : Table) → Fin (tcTables nBuf tb) → BufTy
  | .hbm, ⟨0, _⟩ => ⟨S4x384x5760, .bf16⟩
  | .hbm, ⟨1, _⟩ => ⟨S4x384x2880, .fp8e4m3⟩
  | .hbm, ⟨2, _⟩ => ⟨S_, .f32⟩
  | .hbm, ⟨3, _⟩ => ⟨S5760x2880, .fp8e4m3⟩
  | .hbm, ⟨4, _⟩ => ⟨S_, .f32⟩
  | .hbm, ⟨5, _⟩ => ⟨S5760x2880, .f32⟩
  | .hbm, ⟨6, _⟩ => ⟨S1, .f32⟩
  | .hbm, ⟨7, _⟩ => ⟨S1, .f32⟩
  | .hbm, ⟨8, _⟩ => ⟨S1536x5760, .bf16⟩
  | .hbm, ⟨9, _⟩ => ⟨S4x2880x384, .fp8e4m3⟩
  | .hbm, ⟨10, _⟩ => ⟨S2880x5760, .fp8e4m3⟩
  | .hbm, ⟨11, _⟩ => ⟨S2880x5760, .f32⟩
  | .hbm, ⟨12, _⟩ => ⟨S2880x5760, .f32⟩
  | .hbm, ⟨13, _⟩ => ⟨S1536x5760, .fp8e5m2⟩
  | .hbm, ⟨14, _⟩ => ⟨S3x4x45, .f32⟩
  | .hbm, ⟨15, _⟩ => ⟨S1x1, .f32⟩
  | .hbm, ⟨16, _⟩ => ⟨S4x2880x384, .bf16⟩
  | .hbm, ⟨17, _⟩ => ⟨S4x384x2880, .bf16⟩
  | .hbm, ⟨18, _⟩ => ⟨S5760x2880, .f32⟩
  | .hbm, ⟨19, _⟩ => ⟨S_, .f32⟩
  | .hbm, ⟨20, _⟩ => ⟨S4x384x5760, .fp8e5m2⟩
  | .hbm, ⟨21, _⟩ => ⟨S4x3x45, .f32⟩
  | .local _ .vmem, ⟨0, _⟩ => ⟨S1536x256, .bf16⟩
  | .local _ .vmem, ⟨1, _⟩ => ⟨S1536x256, .bf16⟩
  | .local _ .vmem, ⟨2, _⟩ => ⟨S2880x256, .fp8e4m3⟩
  | .local _ .vmem, ⟨3, _⟩ => ⟨S2880x256, .fp8e4m3⟩
  | .local _ .vmem, ⟨4, _⟩ => ⟨S2880x256, .f32⟩
  | .local _ .vmem, ⟨5, _⟩ => ⟨S2880x256, .f32⟩
  | .local _ .vmem, ⟨6, _⟩ => ⟨S2880x256, .f32⟩
  | .local _ .vmem, ⟨7, _⟩ => ⟨S2880x256, .f32⟩
  | .local _ .vmem, ⟨8, _⟩ => ⟨S1536x256, .fp8e5m2⟩
  | .local _ .vmem, ⟨9, _⟩ => ⟨S1536x256, .fp8e5m2⟩
  | .local _ .vmem, ⟨10, _⟩ => ⟨S3x4x45, .f32⟩
  | .local _ .vmem, ⟨11, _⟩ => ⟨S1x1, .f32⟩
  | .local _ .vmem, ⟨12, _⟩ => ⟨S2880x1536, .fp8e4m3⟩
  | .local _ .vmem, ⟨13, _⟩ => ⟨S2880x1536, .f32⟩
  | .local _ .vmem, ⟨14, _⟩ => ⟨S1536x256, .bf16⟩
  | .local _ .vmem, ⟨15, _⟩ => ⟨S4x2880x384, .bf16⟩
  | .local _ .smem, ⟨0, _⟩ => ⟨S1, .f32⟩
  | .local _ .smem, ⟨1, _⟩ => ⟨S1, .f32⟩
  | _, _ => ⟨S4x384x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![23], ![false]⟩

def k0_cond2 (i : grid0.Coords) : BitVec 1 :=
  let arg0 : BitVec 32 := BitVec.ofNat 32 (i 0).val
  let c22_i32 : BitVec 32 := 22#32
  let v3 : BitVec 1 := Scalar.cmpi .slt arg0 c22_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c22_i32_2 : BitVec 32 := 22#32
  let v6 : BitVec 1 := Scalar.cmpi .eq arg0 c22_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2880x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2880x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2880x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x4x45 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4x384x5760 : Shape := ⟨3, ![4, 384, 5760]⟩
abbrev S4x384x2880 : Shape := ⟨3, ![4, 384, 2880]⟩
abbrev S_ : Shape := ⟨0, ![]⟩
abbrev S5760x2880 : Shape := ⟨2, ![5760, 2880]⟩
abbrev S4x3x128x45x128 : Shape := ⟨5, ![4, 3, 128, 45, 128]⟩
abbrev S4x3x45 : Shape := ⟨3, ![4, 3, 45]⟩
abbrev S4x3x1x45x1 : Shape := ⟨5, ![4, 3, 1, 45, 1]⟩

abbrev nBuf : Space → Nat
  | .hbm => 69
  | .vmem => 7
  | .smem => 0
  | _ => 0

abbrev bufTy : (tb : Table) → Fin (tcTables nBuf tb) → BufTy
  | .hbm, ⟨0, _⟩ => ⟨S4x384x5760, .bf16⟩
  | .hbm, ⟨1, _⟩ => ⟨S4x384x2880, .fp8e4m3⟩
  | .hbm, ⟨2, _⟩ => ⟨S_, .f32⟩
  | .hbm, ⟨3, _⟩ => ⟨S5760x2880, .fp8e4m3⟩
  | .hbm, ⟨4, _⟩ => ⟨S_, .f32⟩
  | .hbm, ⟨5, _⟩ => ⟨S5760x2880, .f32⟩
  | .hbm, ⟨6, _⟩ => ⟨S4x384x5760, .f32⟩
  | .hbm, ⟨7, _⟩ => ⟨S4x3x128x45x128, .f32⟩
  | .hbm, ⟨8, _⟩ => ⟨S4x3x128x45x128, .f32⟩
  | .hbm, ⟨9, _⟩ => ⟨S_, .f32⟩
  | .hbm, ⟨10, _⟩ => ⟨S4x3x45, .f32⟩
  | .hbm, ⟨11, _⟩ => ⟨S_, .f32⟩
  | .hbm, ⟨12, _⟩ => ⟨S4x3x45, .f32⟩
  | .hbm, ⟨13, _⟩ => ⟨S4x3x45, .f32⟩
  | .hbm, ⟨14, _⟩ => ⟨S4x3x45, .f32⟩
  | .hbm, ⟨15, _⟩ => ⟨S_, .f32⟩
  | .hbm, ⟨16, _⟩ => ⟨S_, .f32⟩
  | .hbm, ⟨17, _⟩ => ⟨S4x3x45, .f32⟩
  | .hbm, ⟨18, _⟩ => ⟨S4x3x45, .f32⟩
  | .hbm, ⟨19, _⟩ => ⟨S4x3x45, .f32⟩
  | .hbm, ⟨20, _⟩ => ⟨S_, .f32⟩
  | .hbm, ⟨21, _⟩ => ⟨S4x3x45, .f32⟩
  | .hbm, ⟨22, _⟩ => ⟨S4x3x45, .f32⟩
  | .hbm, ⟨23, _⟩ => ⟨S_, .f32⟩
  | .hbm, ⟨24, _⟩ => ⟨S4x3x45, .f32⟩
  | .hbm, ⟨25, _⟩ => ⟨S4x3x45, .i1⟩
  | .hbm, ⟨26, _⟩ => ⟨S_, .f32⟩
  | .hbm, ⟨27, _⟩ => ⟨S_, .f32⟩
  | .hbm, ⟨28, _⟩ => ⟨S4x3x45, .f32⟩
  | .hbm, ⟨29, _⟩ => ⟨S4x3x45, .f32⟩
  | .hbm, ⟨30, _⟩ => ⟨S_, .f32⟩
  | .hbm, ⟨31, _⟩ => ⟨S4x3x45, .f32⟩
  | .hbm, ⟨32, _⟩ => ⟨S4x3x45, .f32⟩
  | .hbm, ⟨33, _⟩ => ⟨S4x3x45, .f32⟩
  | .hbm, ⟨34, _⟩ => ⟨S_, .f32⟩
  | .hbm, ⟨35, _⟩ => ⟨S4x3x45, .f32⟩
  | .hbm, ⟨36, _⟩ => ⟨S4x3x45, .f32⟩
  | .hbm, ⟨37, _⟩ => ⟨S4x3x1x45x1, .f32⟩
  | .hbm, ⟨38, _⟩ => ⟨S4x3x128x45x128, .f32⟩
  | .hbm, ⟨39, _⟩ => ⟨S4x3x128x45x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x3x128x45x128, .f32⟩
  | .hbm, ⟨44, _⟩ => ⟨S4x3x128x45x128, .f32⟩
  | .hbm, ⟨45, _⟩ => ⟨S_, .f32⟩
  | .hbm, ⟨46, _⟩ => ⟨S4x3x128x45x128, .f32⟩
  | .hbm, ⟨47, _⟩ => ⟨S4x3x128x45x128, .f32⟩
  | .hbm, ⟨48, _⟩ => ⟨S4x384x5760, .f32⟩
  | .hbm, ⟨49, _⟩ => ⟨S_, .f32⟩
  | .hbm, ⟨50, _⟩ => ⟨S_, .f32⟩
  | .hbm, ⟨51, _⟩ => ⟨S4x384x5760, .fp8e5m2⟩
  | .hbm, ⟨52, _⟩ => ⟨S4x384x5760, .bf16⟩
  | .hbm, ⟨53, _⟩ => ⟨S4x384x2880, .bf16⟩
  | .hbm, ⟨54, _⟩ => ⟨S5760x2880, .bf16⟩
  | .hbm, ⟨55, _⟩ => ⟨S4x3x128x45x128, .bf16⟩
  | .hbm, ⟨56, _⟩ => ⟨S4x3x45, .bf16⟩
  | .hbm, ⟨57, _⟩ => ⟨S4x3x1x45x1, .bf16⟩
  | .hbm, ⟨58, _⟩ => ⟨S4x3x128x45x128, .bf16⟩
  | .hbm, ⟨59, _⟩ => ⟨S4x3x128x45x128, .bf16⟩
  | .hbm, ⟨60, _⟩ => ⟨S4x384x5760, .bf16⟩
  | .hbm, ⟨61, _⟩ => ⟨S4x384x2880, .f32⟩
  | .hbm, ⟨62, _⟩ => ⟨S4x384x2880, .f32⟩
  | .hbm, ⟨63, _⟩ => ⟨S4x384x2880, .f32⟩
  | .hbm, ⟨64, _⟩ => ⟨S4x384x2880, .bf16⟩
  | .hbm, ⟨65, _⟩ => ⟨S5760x2880, .f32⟩
  | .hbm, ⟨66, _⟩ => ⟨S5760x2880, .f32⟩
  | .hbm, ⟨67, _⟩ => ⟨S5760x2880, .f32⟩
  | .hbm, ⟨68, _⟩ => ⟨S5760x2880, .f32⟩
  | .local _ .vmem, ⟨0, _⟩ => ⟨S4x384x5760, .f32⟩
  | .local _ .vmem, ⟨1, _⟩ => ⟨S4x384x2880, .fp8e4m3⟩
  | .local _ .vmem, ⟨2, _⟩ => ⟨S5760x2880, .fp8e4m3⟩
  | .local _ .vmem, ⟨3, _⟩ => ⟨S4x384x5760, .fp8e5m2⟩
  | .local _ .vmem, ⟨4, _⟩ => ⟨S4x384x5760, .bf16⟩
  | .local _ .vmem, ⟨5, _⟩ => ⟨S4x384x2880, .bf16⟩
  | .local _ .vmem, ⟨6, _⟩ => ⟨S5760x2880, .bf16⟩
  | _, _ => ⟨S4x384x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25 : Ref sig .tc := ⟨.hbm, 48, rfl⟩
abbrev main_cst_9 : Ref sig .tc := ⟨.hbm, 49, rfl⟩
abbrev main_v26 : Ref sig .tc := ⟨.hbm, 50, rfl⟩
abbrev main_v27_0 : Ref sig .tc := ⟨.hbm, 51, rfl⟩
abbrev main_v27_1 : Ref sig .tc := ⟨.hbm, 52, rfl⟩
abbrev main_v27_2 : Ref sig .tc := ⟨.hbm, 53, rfl⟩
abbrev main_v27_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x384x5760 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5760x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384x5760 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384x5760 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5760x2880 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
/-
  The kernel's body run once in each of its three cases: the first grid point, a point in the middle, the last point.
  Each run holds the windows' buffers, the four scratch buffers, the two arrays in HBM its own copies use and their
  eight semaphores, and names the list of pieces each buffer has been written with. The contents the run starts from
  are arbitrary; what the pieces hold is read off in later modules.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The activations in HBM, transposed by the host. -/
abbrev xH : Memref sig .tc .hbm S4x2880x384 .fp8e4m3 := Memref.whole main_v3
/-- The input gradient in HBM, transposed. -/
abbrev dxH : Memref sig .tc .hbm S4x2880x384 .bf16 := Memref.whole main_v6_4
/-- The scratch copy of the activations. -/
abbrev xS : Memref sig .tc .vmem S2880x1536 .fp8e4m3 := Memref.whole cc0_scratch0
/-- The accumulator of the input gradient. -/
abbrev accS : Memref sig .tc .vmem S2880x1536 .f32 := Memref.whole cc0_scratch1
/-- The dequantised gradient of the current block of columns. -/
abbrev dysS : Memref sig .tc .vmem S1536x256 .bf16 := Memref.whole cc0_scratch2
/-- The staging buffer of the input gradient. -/
abbrev stS : Memref sig .tc .vmem S4x2880x384 .bf16 := Memref.whole cc0_scratch3
/-- The contents of the buffer under a view. -/
abbrev Bf (c : Dev nD) {sp : Space} {S : Shape} {e : EltTy} (M : Memref sig .tc sp S e) : Type := Buf (Elt F) (M.view.loc (c : Thread nD τ))
/-- The buffer under a view is held at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The two DMA semaphore arrays' eight counters, all at zero. -/
abbrev sems0 (c : Dev nD) : sProp 𝕄 :=
  iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

set_option sl_exec.dmaWindow true in
set_option sl_exec.dmaWindowSet true in
set_option maxHeartbeats 4000000 in
/-- The first grid point: the copies in, the zeroing, one block of columns. -/
noncomputable def runA (c : Dev nD) (i : grid0.Coords) (h1 : k0_cond1 i = 1#1) (h2 : k0_cond2 i = 1#1) (h3 : k0_cond3 i ≠ 1#1)
    (arg1 : Memref sig .tc .smem S1 .f32) (harg1 : arg1.IsWhole) (arg2 : Memref sig .tc .smem S1 .f32) (harg2 : arg2.IsWhole) (arg3 : Memref sig .tc .vmem S1536x256 .bf16) (harg3 : arg3.IsWhole) (arg5 : Memref sig .tc .vmem S2880x256 .fp8e4m3) (harg5 : arg5.IsWhole) (arg6 : Memref sig .tc .vmem S2880x256 .f32) (harg6 : arg6.IsWhole) (arg7 : Memref sig .tc .vmem S2880x256 .f32) (harg7 : arg7.IsWhole) (arg8 : Memref sig .tc .vmem S1536x256 .fp8e5m2) (harg8 : arg8.IsWhole) (arg9 : Memref sig .tc .vmem S3x4x45 .f32) (harg9 : arg9.IsWhole) (arg10 : Memref sig .tc .vmem S1x1 .f32) (harg10 : arg10.IsWhole)
    (f1 : Bf (F := F) c arg1) (f2 : Bf (F := F) c arg2) (f3 : Bf (F := F) c arg3) (f5 : Bf (F := F) c arg5) (f6 : Bf (F := F) c arg6)
    (fh : Bf (F := F) c xH) (fo : Bf (F := F) c dxH) :
    { L : List (View.Piece (Elt F) S2880x256 .f32) × List (View.Piece (Elt F) S1536x256 .fp8e5m2) × List (View.Piece (Elt F) S3x4x45 .f32) × List (View.Piece (Elt F) S1x1 .f32) × List (View.Piece (Elt F) S2880x1536 .fp8e4m3) × List (View.Piece (Elt F) S2880x1536 .f32) //
      ∀ (W : Waits sig Unit) (K : PUnit → sProp 𝕄),
        iprop(pt c arg1 f1 ∗ pt c arg2 f2 ∗ pt c arg3 f3 ∗ pt c arg5 f5 ∗ pt c arg6 f6 ∗ (∃ f, pt c arg7 f) ∗ (∃ f, pt c arg8 f) ∗ (∃ f, pt c arg9 f) ∗ (∃ f, pt c arg10 f) ∗ (∃ f, pt c xS f) ∗ (∃ f, pt c accS f) ∗ (∃ f, pt c dysS f) ∗ (∃ f, pt c stS f) ∗ pt c xH fh ∗ pt c dxH fo
            ∗ sems0 c ∗ owes (c : Thread nD τ) 0 W
            ∗ (iprop(pt c arg1 f1 ∗ pt c arg2 f2 ∗ pt c arg3 f3 ∗ pt c arg5 f5 ∗ pt c arg6 f6 ∗ (∃ f, pt c arg7 (arg7.view.writes (Elt F) f L.1)) ∗ (∃ f, pt c arg8 (arg8.view.writes (Elt F) f L.2.1)) ∗ (∃ f, pt c arg9 (arg9.view.writes (Elt F) f L.2.2.1)) ∗ (∃ f, pt c arg10 (arg10.view.writes (Elt F) f L.2.2.2.1)) ∗ (∃ f, pt c xS (xS.view.writes (Elt F) f L.2.2.2.2.1)) ∗ (∃ f, pt c accS (accS.view.writes (Elt F) f L.2.2.2.2.2)) ∗ (∃ f, pt c dysS f) ∗ (∃ f, pt c stS f) ∗ pt c xH fh ∗ pt c dxH fo
              ∗ sems0 c ∗ (∃ W', owes (c : Thread nD τ) 0 W')) -∗ K ⟨⟩))
          ⊢ wp frame (wpE (defs₀ (F := F)) Variants.none c none) Set.univ
              (cc0_fp8_linear_bwd i arg1 harg1 arg2 harg2 arg3 harg3 xH (Memref.isWhole_whole _) arg5 harg5 arg6 harg6 arg7 harg7 arg8 harg8 arg9 harg9 arg10 harg10 dxH (Memref.isWhole_whole _) xS (Memref.isWhole_whole _) accS (Memref.isWhole_whole _) dysS (Memref.isWhole_whole _) stS (Memref.isWhole_whole _) cc0_scratch4 cc0_scratch5) K } := by
  refine ⟨(?_, ?_, ?_, ?_, ?_, ?_), fun W K => ?run⟩
  case run =>
    simp only [cc0_fp8_linear_bwd_eq_skeleton]; unfold cc0_fp8_linear_bwd_skel
    iintro ⟨H1, H2, H3, H5, H6, ⟨%f7, H7⟩, ⟨%f8, H8⟩, ⟨%f9, H9⟩, ⟨%f10, H10⟩, ⟨%fx, HX⟩, ⟨%fa, HA⟩, ⟨%fd, HD⟩, ⟨%fs, HS⟩, HH, HO, ⟨Hq0, Hq1, Hq2, Hq3, Hp0, Hp1, Hp2, Hp3⟩, HW, Hk⟩
    sl_exec (disch := first | sl_exact h1 | sl_exact h2 | sl_exact h3)
    sl_step
    iapply Hk
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HX]; · iexists _; iexact HX
    isplitl [HA]; · iexists _; iexact HA
    isplitl [HD]; · iexists _; iexact HD
    isplitl [HS]; · iexists _; iexact HS
    isplitl [HH]; · iexact HH
    isplitl [HO]; · iexact HO
    isplitl [Hq0 Hq1 Hq2 Hq3 Hp0 Hp1 Hp2 Hp3]
    · isplitl [Hq0]; · iexact Hq0
      isplitl [Hq1]; · iexact Hq1
      isplitl [Hq2]; · iexact Hq2
      isplitl [Hq3]; · iexact Hq3
      isplitl [Hp0]; · iexact Hp0
      isplitl [Hp1]; · iexact Hp1
      isplitl [Hp2]; · iexact Hp2
      iexact Hp3
    iexists _; iexact HW

set_option sl_exec.dmaWindow true in
set_option sl_exec.dmaWindowSet true in
set_option maxHeartbeats 4000000 in
/-- A step between the first and the last. -/
noncomputable def runB (c : Dev nD) (i : grid0.Coords) (h1 : k0_cond1 i ≠ 1#1) (h2 : k0_cond2 i = 1#1) (h3 : k0_cond3 i ≠ 1#1)
    (arg1 : Memref sig .tc .smem S1 .f32) (harg1 : arg1.IsWhole) (arg2 : Memref sig .tc .smem S1 .f32) (harg2 : arg2.IsWhole) (arg3 : Memref sig .tc .vmem S1536x256 .bf16) (harg3 : arg3.IsWhole) (arg5 : Memref sig .tc .vmem S2880x256 .fp8e4m3) (harg5 : arg5.IsWhole) (arg6 : Memref sig .tc .vmem S2880x256 .f32) (harg6 : arg6.IsWhole) (arg7 : Memref sig .tc .vmem S2880x256 .f32) (harg7 : arg7.IsWhole) (arg8 : Memref sig .tc .vmem S1536x256 .fp8e5m2) (harg8 : arg8.IsWhole) (arg9 : Memref sig .tc .vmem S3x4x45 .f32) (harg9 : arg9.IsWhole) (arg10 : Memref sig .tc .vmem S1x1 .f32) (harg10 : arg10.IsWhole)
    (f1 : Bf (F := F) c arg1) (f2 : Bf (F := F) c arg2) (f3 : Bf (F := F) c arg3) (f5 : Bf (F := F) c arg5) (f6 : Bf (F := F) c arg6)
    (f9 : Bf (F := F) c arg9) (f10 : Bf (F := F) c arg10) (fx : Bf (F := F) c xS) (fa : Bf (F := F) c accS) (fh : Bf (F := F) c xH) (fo : Bf (F := F) c dxH) :
    { L : List (View.Piece (Elt F) S2880x256 .f32) × List (View.Piece (Elt F) S1536x256 .fp8e5m2) × List (View.Piece (Elt F) S3x4x45 .f32) × List (View.Piece (Elt F) S1x1 .f32) × List (View.Piece (Elt F) S2880x1536 .f32) //
      ∀ (W : Waits sig Unit) (K : PUnit → sProp 𝕄),
        iprop(pt c arg1 f1 ∗ pt c arg2 f2 ∗ pt c arg3 f3 ∗ pt c arg5 f5 ∗ pt c arg6 f6 ∗ (∃ f, pt c arg7 f) ∗ (∃ f, pt c arg8 f) ∗ pt c arg9 f9 ∗ pt c arg10 f10 ∗ pt c xS fx ∗ pt c accS fa ∗ (∃ f, pt c dysS f) ∗ (∃ f, pt c stS f) ∗ pt c xH fh ∗ pt c dxH fo
            ∗ sems0 c ∗ owes (c : Thread nD τ) 0 W
            ∗ (iprop(pt c arg1 f1 ∗ pt c arg2 f2 ∗ pt c arg3 f3 ∗ pt c arg5 f5 ∗ pt c arg6 f6 ∗ (∃ f, pt c arg7 (arg7.view.writes (Elt F) f L.1)) ∗ (∃ f, pt c arg8 (arg8.view.writes (Elt F) f L.2.1)) ∗ pt c arg9 (arg9.view.writes (Elt F) f9 L.2.2.1) ∗ pt c arg10 (arg10.view.writes (Elt F) f10 L.2.2.2.1) ∗ pt c xS fx ∗ pt c accS (accS.view.writes (Elt F) fa L.2.2.2.2) ∗ (∃ f, pt c dysS f) ∗ (∃ f, pt c stS f) ∗ pt c xH fh ∗ pt c dxH fo
              ∗ sems0 c ∗ (∃ W', owes (c : Thread nD τ) 0 W')) -∗ K ⟨⟩))
          ⊢ wp frame (wpE (defs₀ (F := F)) Variants.none c none) Set.univ
              (cc0_fp8_linear_bwd i arg1 harg1 arg2 harg2 arg3 harg3 xH (Memref.isWhole_whole _) arg5 harg5 arg6 harg6 arg7 harg7 arg8 harg8 arg9 harg9 arg10 harg10 dxH (Memref.isWhole_whole _) xS (Memref.isWhole_whole _) accS (Memref.isWhole_whole _) dysS (Memref.isWhole_whole _) stS (Memref.isWhole_whole _) cc0_scratch4 cc0_scratch5) K } := by
  refine ⟨(?_, ?_, ?_, ?_, ?_), fun W K => ?run⟩
  case run =>
    simp only [cc0_fp8_linear_bwd_eq_skeleton]; unfold cc0_fp8_linear_bwd_skel
    iintro ⟨H1, H2, H3, H5, H6, ⟨%f7, H7⟩, ⟨%f8, H8⟩, H9, H10, HX, HA, ⟨%fd, HD⟩, ⟨%fs, HS⟩, HH, HO, ⟨Hq0, Hq1, Hq2, Hq3, Hp0, Hp1, Hp2, Hp3⟩, HW, Hk⟩
    sl_exec (disch := first | sl_exact h1 | sl_exact h2 | sl_exact h3)
    sl_step
    iapply Hk
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexact H9
    isplitl [H10]; · iexact H10
    isplitl [HX]; · iexact HX
    isplitl [HA]; · iexact HA
    isplitl [HD]; · iexists _; iexact HD
    isplitl [HS]; · iexists _; iexact HS
    isplitl [HH]; · iexact HH
    isplitl [HO]; · iexact HO
    isplitl [Hq0 Hq1 Hq2 Hq3 Hp0 Hp1 Hp2 Hp3]
    · isplitl [Hq0]; · iexact Hq0
      isplitl [Hq1]; · iexact Hq1
      isplitl [Hq2]; · iexact Hq2
      isplitl [Hq3]; · iexact Hq3
      isplitl [Hp0]; · iexact Hp0
      isplitl [Hp1]; · iexact Hp1
      isplitl [Hp2]; · iexact Hp2
      iexact Hp3
    iexists _; iexact HW

set_option sl_exec.dmaWindow true in
set_option sl_exec.dmaWindowSet true in
set_option maxHeartbeats 4000000 in
/-- The last step. -/
noncomputable def runC (c : Dev nD) (i : grid0.Coords) (h1 : k0_cond1 i ≠ 1#1) (h2 : k0_cond2 i ≠ 1#1) (h3 : k0_cond3 i = 1#1)
    (arg1 : Memref sig .tc .smem S1 .f32) (harg1 : arg1.IsWhole) (arg2 : Memref sig .tc .smem S1 .f32) (harg2 : arg2.IsWhole) (arg3 : Memref sig .tc .vmem S1536x256 .bf16) (harg3 : arg3.IsWhole) (arg5 : Memref sig .tc .vmem S2880x256 .fp8e4m3) (harg5 : arg5.IsWhole) (arg6 : Memref sig .tc .vmem S2880x256 .f32) (harg6 : arg6.IsWhole) (arg7 : Memref sig .tc .vmem S2880x256 .f32) (harg7 : arg7.IsWhole) (arg8 : Memref sig .tc .vmem S1536x256 .fp8e5m2) (harg8 : arg8.IsWhole) (arg9 : Memref sig .tc .vmem S3x4x45 .f32) (harg9 : arg9.IsWhole) (arg10 : Memref sig .tc .vmem S1x1 .f32) (harg10 : arg10.IsWhole)
    (f1 : Bf (F := F) c arg1) (f2 : Bf (F := F) c arg2) (f3 : Bf (F := F) c arg3) (f5 : Bf (F := F) c arg5) (f6 : Bf (F := F) c arg6)
    (f9 : Bf (F := F) c arg9) (f10 : Bf (F := F) c arg10) (fx : Bf (F := F) c xS) (fa : Bf (F := F) c accS) (fh : Bf (F := F) c xH) (fo : Bf (F := F) c dxH) :
    { L : List (View.Piece (Elt F) S2880x256 .f32) × List (View.Piece (Elt F) S1536x256 .fp8e5m2) × List (View.Piece (Elt F) S3x4x45 .f32) × List (View.Piece (Elt F) S1x1 .f32) × List (View.Piece (Elt F) S2880x1536 .f32) × (Bf (F := F) c stS → Bf (F := F) c dxH) //
      ∀ (W : Waits sig Unit) (K : PUnit → sProp 𝕄),
        iprop(pt c arg1 f1 ∗ pt c arg2 f2 ∗ pt c arg3 f3 ∗ pt c arg5 f5 ∗ pt c arg6 f6 ∗ (∃ f, pt c arg7 f) ∗ (∃ f, pt c arg8 f) ∗ pt c arg9 f9 ∗ pt c arg10 f10 ∗ pt c xS fx ∗ pt c accS fa ∗ (∃ f, pt c dysS f) ∗ (∃ f, pt c stS f) ∗ pt c xH fh ∗ pt c dxH fo
            ∗ sems0 c ∗ owes (c : Thread nD τ) 0 W
            ∗ (iprop(pt c arg1 f1 ∗ pt c arg2 f2 ∗ pt c arg3 f3 ∗ pt c arg5 f5 ∗ pt c arg6 f6 ∗ (∃ f, pt c arg7 (arg7.view.writes (Elt F) f L.1)) ∗ (∃ f, pt c arg8 (arg8.view.writes (Elt F) f L.2.1)) ∗ pt c arg9 (arg9.view.writes (Elt F) f9 L.2.2.1) ∗ pt c arg10 (arg10.view.writes (Elt F) f10 L.2.2.2.1) ∗ pt c xS fx ∗ pt c accS (accS.view.writes (Elt F) fa L.2.2.2.2.1) ∗ (∃ f, pt c dysS f) ∗ (∃ f, pt c stS f) ∗ pt c xH fh ∗ (∃ fs, pt c dxH (L.2.2.2.2.2 fs))
              ∗ sems0 c ∗ (∃ W', owes (c : Thread nD τ) 0 W')) -∗ K ⟨⟩))
          ⊢ wp frame (wpE (defs₀ (F := F)) Variants.none c none) Set.univ
              (cc0_fp8_linear_bwd i arg1 harg1 arg2 harg2 arg3 harg3 xH (Memref.isWhole_whole _) arg5 harg5 arg6 harg6 arg7 harg7 arg8 harg8 arg9 harg9 arg10 harg10 dxH (Memref.isWhole_whole _) xS (Memref.isWhole_whole _) accS (Memref.isWhole_whole _) dysS (Memref.isWhole_whole _) stS (Memref.isWhole_whole _) cc0_scratch4 cc0_scratch5) K } := by
  refine ⟨(?_, ?_, ?_, ?_, ?_, ?_), fun W K => ?run⟩
  case run =>
    simp only [cc0_fp8_linear_bwd_eq_skeleton]; unfold cc0_fp8_linear_bwd_skel
    iintro ⟨H1, H2, H3, H5, H6, ⟨%f7, H7⟩, ⟨%f8, H8⟩, H9, H10, HX, HA, ⟨%fd, HD⟩, ⟨%fs, HS⟩, HH, HO, ⟨Hq0, Hq1, Hq2, Hq3, Hp0, Hp1, Hp2, Hp3⟩, HW, Hk⟩
    sl_exec (disch := first | sl_exact h1 | sl_exact h2 | sl_exact h3)
    sl_step
    iapply Hk
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexact H9
    isplitl [H10]; · iexact H10
    isplitl [HX]; · iexact HX
    isplitl [HA]; · iexact HA
    isplitl [HD]; · iexists _; iexact HD
    isplitl [HS]; · iexists _; iexact HS
    isplitl [HH]; · iexact HH
    isplitl [HO]; · iexists fs; iexact HO
    isplitl [Hq0 Hq1 Hq2 Hq3 Hp0 Hp1 Hp2 Hp3]
    · isplitl [Hq0]; · iexact Hq0
      isplitl [Hq1]; · iexact Hq1
      isplitl [Hq2]; · iexact Hq2
      isplitl [Hq3]; · iexact Hq3
      isplitl [Hp0]; · iexact Hp0
      isplitl [Hp1]; · iexact Hp1
      isplitl [Hp2]; · iexact Hp2
      iexact Hp3
    iexists _; iexact HW

end Cert.KernelIdeal.Hand

end
-- ==== Proof.Frame.lean ====
/-
  The frame of the kernel: it runs, it ends with every argument array as it was and with every counter at zero.
  The pipeline's own windows are handled by the library; the kernel's own copies (the activations in, the input
  gradient out) run inside the body (Body.lean). Nothing is said here of what the results hold.
-/
module

public import proofs.«01_k».proof.Proof.Body
public import proofs.«01_k».proof.Proof.Gen.KernelIdeal.Frame
public import Idealize.ShloMosaic.Lib.Pipeline.FrameSuffixR

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The eight semaphores of the kernel's own copies: four for the copies in, four for the copies out. -/
abbrev osem0 : Fin 8 → SemLoc sig := fun j =>
  (![SemLoc.dma 14, SemLoc.dma 15, SemLoc.dma 16, SemLoc.dma 17, SemLoc.dma 18, SemLoc.dma 19, SemLoc.dma 20, SemLoc.dma 21] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 [0, 1, 2, 3, 4, 5, 6, 7] (by decide) (by decide)]; rfl

/-- The array the kernel's own copies read, and the one they write. -/
def H0 : Finset (Ref sig .tc) := {main_v3}
def R0 : Finset (Ref sig .tc) := {main_v6_4}
theorem H0_sub : H0 ⊆ Pipeline.restRefs sig spec0 := by decide
theorem R0_sub : R0 ⊆ Pipeline.restRefs sig spec0 \ H0 := by decide

/-- The buffers the lines after the region write. -/
def T0 : Finset (Ref sig .tc) := {main_v7, main_v8, main_v9, main_v10, main_v11}

theorem pt_whole (c : Dev nD) (b : Ref sig .tc) (f : Buf (Elt F) ((c : Thread nD τ).loc b)) :
    pt c (Memref.whole b) f = iprop(((c : Thread nD τ).loc b) ↦{fullShare} f) := by
  show iprop(_ ↦[(View.whole b).set]{fullShare} f) = _
  rw [View.set_whole]

theorem ex_pt_whole (c : Dev nD) (b : Ref sig .tc) :
    (iprop(∃ f, pt c (Memref.whole b) f) : sProp 𝕄) = iprop(∃ f : Buf (Elt F) ((c : Thread nD τ).loc b), ((c : Thread nD τ).loc b) ↦{fullShare} f) :=
  congrArg BIBase.exists (funext fun f => pt_whole c b f)

theorem hbmPts0_eq (c : Dev nD) :
    (bigSep H0 (fun b => ((c : Thread nD τ).loc b) ↦{fullShare} V m c b) : sProp 𝕄) = pt c xH (V m c main_v3) := by
  rw [BI.bigSep_eq_bigSepL_of_eq [main_v3] (by decide) (by decide), pt_whole]; rfl

theorem ownedPts0_eq (c : Dev nD) :
    (Pipeline.owned R0 c : sProp 𝕄) = iprop(∃ f, pt c dxH f) := by
  unfold Pipeline.owned; rw [BI.bigSep_eq_bigSepL_of_eq [main_v6_4] (by decide) (by decide)]
  exact (ex_pt_whole c main_v6_4).symm

theorem scopedPts0_eq (c : Dev nD) :
    (Pipeline.scopedRest (Ix := Unit) (Name := ℕ) (U := Pipeline.UD sig nD τ) (Lvl := ℕ) (Val := Elt F) spec0 c : sProp 𝕄)
      = iprop((∃ f, pt c xS f) ∗ (∃ f, pt c accS f) ∗ (∃ f, pt c dysS f) ∗ (∃ f, pt c stS f)) := by
  rw [scopedRest0_eq, show (iprop(∃ f, pt c xS f) : sProp 𝕄) = _ from ex_pt_whole c cc0_scratch0,
    show (iprop(∃ f, pt c accS f) : sProp 𝕄) = _ from ex_pt_whole c cc0_scratch1,
    show (iprop(∃ f, pt c dysS f) : sProp 𝕄) = _ from ex_pt_whole c cc0_scratch2,
    show (iprop(∃ f, pt c stS f) : sProp 𝕄) = _ from ex_pt_whole c cc0_scratch3]

theorem PhiDR0_eq (c : Dev nD) :
    (Pipeline.ΦDR osem0 spec0 H0 R0 (V m) c : sProp 𝕄)
      = iprop(iprop((∃ f, pt c xS f) ∗ (∃ f, pt c accS f) ∗ (∃ f, pt c dysS f) ∗ (∃ f, pt c stS f))
          ∗ (∃ r, prngReg c r) ∗ sems0 c ∗ pt c xH (V m c main_v3) ∗ (∃ f, pt c dxH f)) := by
  rw [Pipeline.ΦDR_eq, scopedPts0_eq, ownSems00_eq, hbmPts0_eq, ownedPts0_eq]

/-- The body's three branches by the grid point: the first runs at point 0, the second at every point but the last, the
    third at the last. -/
theorem cond1_iff (t : Fin cfg0.N) : k0_cond1 (grid0.coords t) = 1#1 ↔ t.val = 0 :=
  (by decide : ∀ t : Fin grid0.N, k0_cond1 (grid0.coords t) = 1#1 ↔ t.val = 0) t
theorem cond2_iff (t : Fin cfg0.N) : k0_cond2 (grid0.coords t) = 1#1 ↔ t.val ≠ 22 :=
  (by decide : ∀ t : Fin grid0.N, k0_cond2 (grid0.coords t) = 1#1 ↔ t.val ≠ 22) t
theorem cond3_iff (t : Fin cfg0.N) : k0_cond3 (grid0.coords t) = 1#1 ↔ t.val = 22 :=
  (by decide : ∀ t : Fin grid0.N, k0_cond3 (grid0.coords t) = 1#1 ↔ t.val = 22) t

/-- The outputs, of which the frame says nothing. -/
abbrev forgets : Fin 9 → Bool := ![false, false, false, false, false, true, true, true, true]

/-- The proof data: the arrays as the region finds them, each input's buffer left as fetched, the outputs' not named. -/
def datsF (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Classical.ofNonempty) (iblk m c 2 t)
    | ⟨3, _⟩ => (cfg0.win 3).fill (cfg0.grid.coords t) (fun _ => Classical.ofNonempty) (iblk m c 3 t)
    | ⟨4, _⟩ => (cfg0.win 4).fill (cfg0.grid.coords t) (fun _ => Classical.ofNonempty) (iblk m c 4 t)
    | ⟨5, _⟩ => fun _ => Classical.ofNonempty
    | ⟨6, _⟩ => fun _ => Classical.ofNonempty
    | ⟨7, _⟩ => fun _ => Classical.ofNonempty
    | ⟨8, _⟩ => fun _ => Classical.ofNonempty
  Φ _ := Pipeline.ΦDR osem0 spec0 H0 R0 (V m) c
  q _ := fullShare
  owed _ := 0

theorem A_eq (c : Dev nD) (w : Fin cfg0.W) : (datsF m 0 c).A w = V m c (Pipeline.arrRef spec0 w) := by dsimp only [datsF]

theorem beforeF_0 (c : Dev nD) (t : Fin cfg0.N) (d) : (datsF m 0 c).before 0 t d = iblk m c 0 t :=
  ((datsF m 0 c).before_in_eq_fetched 0 rfl (fun _ => rfl) (fun _ _ _ => rfl)
    (fun t => by dsimp only [datsF]; unfold Dat.blockOf iblk; rfl) t d).trans
    (by unfold Dat.fetched Dat.blockOf iblk; rw [A_eq]; rfl)
theorem beforeF_1 (c : Dev nD) (t : Fin cfg0.N) (d) : (datsF m 0 c).before 1 t d = iblk m c 1 t :=
  ((datsF m 0 c).before_in_eq_fetched 1 rfl (fun _ => rfl) (fun _ _ _ => rfl)
    (fun t => by dsimp only [datsF]; unfold Dat.blockOf iblk; rfl) t d).trans
    (by unfold Dat.fetched Dat.blockOf iblk; rw [A_eq]; rfl)
theorem beforeF_2 (c : Dev nD) (t : Fin cfg0.N) (d) :
    (datsF m 0 c).before 2 t d = (cfg0.win 2).fill (cfg0.grid.coords t) d (iblk m c 2 t) := by
  unfold Dat.before; rw [if_pos (fetch0_2 t)]; unfold Dat.fetched Dat.blockOf iblk; rw [A_eq]
theorem beforeF_3 (c : Dev nD) (t : Fin cfg0.N) (d) :
    (datsF m 0 c).before 3 t d = (cfg0.win 3).fill (cfg0.grid.coords t) d (iblk m c 3 t) := by
  unfold Dat.before; rw [if_pos (fetch0_3 t)]; unfold Dat.fetched Dat.blockOf iblk; rw [A_eq]
theorem beforeF_4 (c : Dev nD) (t : Fin cfg0.N) (d) :
    (datsF m 0 c).before 4 t d = (cfg0.win 4).fill (cfg0.grid.coords t) d (iblk m c 4 t) := by
  unfold Dat.before; rw [if_pos (fetch0_4 t)]; unfold Dat.fetched Dat.blockOf iblk; rw [A_eq]
theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem cutF_2 (c : Dev nD) (t : Fin cfg0.N) : (cfg0.win 2).cut (cfg0.grid.coords t) ((datsF m 0 c).after 2 t) = iblk m c 2 t := by
  dsimp only [datsF]; rw [(cfg0.win 2).cut_fill]
theorem cutF_3 (c : Dev nD) (t : Fin cfg0.N) : (cfg0.win 3).cut (cfg0.grid.coords t) ((datsF m 0 c).after 3 t) = iblk m c 3 t := by
  dsimp only [datsF]; rw [(cfg0.win 3).cut_fill]
theorem cutF_4 (c : Dev nD) (t : Fin cfg0.N) : (cfg0.win 4).cut (cfg0.grid.coords t) ((datsF m 0 c).after 4 t) = iblk m c 4 t := by
  dsimp only [datsF]; rw [(cfg0.win 4).cut_fill]

/-- What the body is handed at a point, and what it must leave. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ (∃ d, owns (c : Thread nD τ) (st0_2 t) fullShare ((cfg0.win 2).fill (cfg0.grid.coords t) d ((cfg0.win 2).cut (cfg0.grid.coords t) ((datsF m 0 c).after 2 t))))
    ∗ (∃ d, owns (c : Thread nD τ) (st0_3 t) fullShare ((cfg0.win 3).fill (cfg0.grid.coords t) d ((cfg0.win 3).cut (cfg0.grid.coords t) ((datsF m 0 c).after 3 t))))
    ∗ (∃ d, owns (c : Thread nD τ) (st0_4 t) fullShare ((cfg0.win 4).fill (cfg0.grid.coords t) d ((cfg0.win 4).cut (cfg0.grid.coords t) ((datsF m 0 c).after 4 t))))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- Buffers held at the contents the body left, as the obligation states them. -/
theorem owns_intro (c : Dev nD) {sp : Space} {S : Shape} {e : EltTy} (M : Memref sig .tc sp S e) (f : Bf (F := F) c M) :
    pt c M f ⊢ (owns (c : Thread nD τ) M fullShare (M.view.read (Elt F) f) : sProp 𝕄) := by
  unfold owns; iintro H; iexists f; isplitr; · ipureintro; rfl
  iexact H

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [cutF_2, cutF_3, cutF_4]
  simp only [beforeF_0, beforeF_1, beforeF_2, beforeF_3, beforeF_4, afterF_0, afterF_1]
  rw [show (datsF m 0 c).Φ t.succ = Pipeline.ΦDR osem0 spec0 H0 R0 (V m) c from rfl,
    show (datsF m 0 c).Φ t.castSucc = Pipeline.ΦDR osem0 spec0 H0 R0 (V m) c from rfl, PhiDR0_eq]
  unfold Dat.owesAt Pipeline.owesWithin
  rw [show (datsF m 0 c).owed t.castSucc = 0 from rfl, show (datsF m 0 c).owed t.succ = 0 from rfl]
  unfold owns
  iintro ⟨⟨⟨HX, HA, HD, HS⟩, Hg, Hq, HH, ⟨%fo, HO⟩⟩, ⟨%W, -, HW⟩, ⟨%d0, %f1, %e1, H1⟩, ⟨%d1, %f2, %e2, H2⟩, ⟨%d2, %f3, %e3, H3⟩, ⟨%d3, %f5, %e5, H5⟩, ⟨%d4, %f6, %e6, H6⟩, ⟨%X7, %f7, %e7, H7⟩, ⟨%X8, %f8, %e8, H8⟩, ⟨%X9, %f9, %e9, H9⟩, ⟨%X10, %f10, %e10, H10⟩⟩
  by_cases ht0 : t.val = 0
  · have h1 := (cond1_iff t).2 ht0
    have h2 := (cond2_iff t).2 (by omega)
    have h3 : k0_cond3 (grid0.coords t) ≠ 1#1 := fun h => by have := (cond3_iff t).1 h; omega
    iapply ((runA c (grid0.coords t) h1 h2 h3 _ _ _ _ _ _ _ _ _ _ _ _ _ _ _ _ _ _ f1 f2 f3 f5 f6 (V m c main_v3) fo).2 W _)
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HX]; · iexact HX
    isplitl [HA]; · iexact HA
    isplitl [HD]; · iexact HD
    isplitl [HS]; · iexact HS
    isplitl [HH]; · iexact HH
    isplitl [HO]; · iexact HO
    isplitl [Hq]; · iexact Hq
    isplitl [HW]; · iexact HW
    iintro ⟨H1, H2, H3, H5, H6, ⟨%g7, H7⟩, ⟨%g8, H8⟩, ⟨%g9, H9⟩, ⟨%g10, H10⟩, ⟨%gx, HX⟩, ⟨%ga, HA⟩, HD, HS, HH, HO, Hq, ⟨%W', HW⟩⟩
    isplitl [HX HA HD HS Hg Hq HH HO]
    · isplitl [HX HA HD HS]
      · isplitl [HX]; · iexists _; iexact HX
        isplitl [HA]; · iexists _; iexact HA
        isplitl [HD]; · iexact HD
        iexact HS
      isplitl [Hg]; · iexact Hg
      isplitl [Hq]; · iexact Hq
      isplitl [HH]; · iexact HH
      iexists _; iexact HO
    isplitl [HW]
    · iexists W'; isplitr
      · ipureintro; exact fun _ _ => Or.inl trivial
      iexact HW
    isplitl [H1]
    · iexists f1; isplitr
      · ipureintro; exact e1
      iexact H1
    isplitl [H2]
    · iexists f2; isplitr
      · ipureintro; exact e2
      iexact H2
    isplitl [H3]
    · iexists d2, f3; isplitr
      · ipureintro; exact e3
      iexact H3
    isplitl [H5]
    · iexists d3, f5; isplitr
      · ipureintro; exact e5
      iexact H5
    isplitl [H6]
    · iexists d4, f6; isplitr
      · ipureintro; exact e6
      iexact H6
    isplitl [H7]
    · iexists _, _; isplitr; swap
      · iexact H7
      ipureintro; rfl
    isplitl [H8]
    · iexists _, _; isplitr; swap
      · iexact H8
      ipureintro; rfl
    isplitl [H9]
    · iexists _, _; isplitr; swap
      · iexact H9
      ipureintro; rfl
    iexists _, _; isplitr; swap; · iexact H10
    ipureintro; rfl
  · by_cases ht22 : t.val = 22
    · have h1 : k0_cond1 (grid0.coords t) ≠ 1#1 := fun h => ht0 ((cond1_iff t).1 h)
      have h2 : k0_cond2 (grid0.coords t) ≠ 1#1 := fun h => (cond2_iff t).1 h ht22
      have h3 := (cond3_iff t).2 ht22
      icases HX with ⟨%fx, HX⟩
      icases HA with ⟨%fa, HA⟩
      iapply ((runC c (grid0.coords t) h1 h2 h3 _ _ _ _ _ _ _ _ _ _ _ _ _ _ _ _ _ _ f1 f2 f3 f5 f6 f9 f10 fx fa (V m c main_v3) fo).2 W _)
      isplitl [H1]; · iexact H1
      isplitl [H2]; · iexact H2
      isplitl [H3]; · iexact H3
      isplitl [H5]; · iexact H5
      isplitl [H6]; · iexact H6
      isplitl [H7]; · iexists _; iexact H7
      isplitl [H8]; · iexists _; iexact H8
      isplitl [H9]; · iexact H9
      isplitl [H10]; · iexact H10
      isplitl [HX]; · iexact HX
      isplitl [HA]; · iexact HA
      isplitl [HD]; · iexact HD
      isplitl [HS]; · iexact HS
      isplitl [HH]; · iexact HH
      isplitl [HO]; · iexact HO
      isplitl [Hq]; · iexact Hq
      isplitl [HW]; · iexact HW
      iintro ⟨H1, H2, H3, H5, H6, ⟨%g7, H7⟩, ⟨%g8, H8⟩, H9, H10, HX, HA, HD, HS, HH, ⟨%go, HO⟩, Hq, ⟨%W', HW⟩⟩
      isplitl [HX HA HD HS Hg Hq HH HO]
      · isplitl [HX HA HD HS]
        · isplitl [HX]; · iexists _; iexact HX
          isplitl [HA]; · iexists _; iexact HA
          isplitl [HD]; · iexact HD
          iexact HS
        isplitl [Hg]; · iexact Hg
        isplitl [Hq]; · iexact Hq
        isplitl [HH]; · iexact HH
        iexists _; iexact HO
      isplitl [HW]
      · iexists W'; isplitr
        · ipureintro; exact fun _ _ => Or.inl trivial
        iexact HW
      isplitl [H1]
      · iexists f1; isplitr
        · ipureintro; exact e1
        iexact H1
      isplitl [H2]
      · iexists f2; isplitr
        · ipureintro; exact e2
        iexact H2
      isplitl [H3]
      · iexists d2, f3; isplitr
        · ipureintro; exact e3
        iexact H3
      isplitl [H5]
      · iexists d3, f5; isplitr
        · ipureintro; exact e5
        iexact H5
      isplitl [H6]
      · iexists d4, f6; isplitr
        · ipureintro; exact e6
        iexact H6
      isplitl [H7]
      · iexists _, _; isplitr; swap
        · iexact H7
        ipureintro; rfl
      isplitl [H8]
      · iexists _, _; isplitr; swap
        · iexact H8
        ipureintro; rfl
      isplitl [H9]
      · iexists _, _; isplitr; swap
        · iexact H9
        ipureintro; rfl
      iexists _, _; isplitr; swap; · iexact H10
      ipureintro; rfl
    · have h1 : k0_cond1 (grid0.coords t) ≠ 1#1 := fun h => ht0 ((cond1_iff t).1 h)
      have h2 := (cond2_iff t).2 ht22
      have h3 : k0_cond3 (grid0.coords t) ≠ 1#1 := fun h => ht22 ((cond3_iff t).1 h)
      icases HX with ⟨%fx, HX⟩
      icases HA with ⟨%fa, HA⟩
      iapply ((runB c (grid0.coords t) h1 h2 h3 _ _ _ _ _ _ _ _ _ _ _ _ _ _ _ _ _ _ f1 f2 f3 f5 f6 f9 f10 fx fa (V m c main_v3) fo).2 W _)
      isplitl [H1]; · iexact H1
      isplitl [H2]; · iexact H2
      isplitl [H3]; · iexact H3
      isplitl [H5]; · iexact H5
      isplitl [H6]; · iexact H6
      isplitl [H7]; · iexists _; iexact H7
      isplitl [H8]; · iexists _; iexact H8
      isplitl [H9]; · iexact H9
      isplitl [H10]; · iexact H10
      isplitl [HX]; · iexact HX
      isplitl [HA]; · iexact HA
      isplitl [HD]; · iexact HD
      isplitl [HS]; · iexact HS
      isplitl [HH]; · iexact HH
      isplitl [HO]; · iexact HO
      isplitl [Hq]; · iexact Hq
      isplitl [HW]; · iexact HW
      iintro ⟨H1, H2, H3, H5, H6, ⟨%g7, H7⟩, ⟨%g8, H8⟩, H9, H10, HX, HA, HD, HS, HH, HO, Hq, ⟨%W', HW⟩⟩
      isplitl [HX HA HD HS Hg Hq HH HO]
      · isplitl [HX HA HD HS]
        · isplitl [HX]; · iexists _; iexact HX
          isplitl [HA]; · iexists _; iexact HA
          isplitl [HD]; · iexact HD
          iexact HS
        isplitl [Hg]; · iexact Hg
        isplitl [Hq]; · iexact Hq
        isplitl [HH]; · iexact HH
        iexists _; iexact HO
      isplitl [HW]
      · iexists W'; isplitr
        · ipureintro; exact fun _ _ => Or.inl trivial
        iexact HW
      isplitl [H1]
      · iexists f1; isplitr
        · ipureintro; exact e1
        iexact H1
      isplitl [H2]
      · iexists f2; isplitr
        · ipureintro; exact e2
        iexact H2
      isplitl [H3]
      · iexists d2, f3; isplitr
        · ipureintro; exact e3
        iexact H3
      isplitl [H5]
      · iexists d3, f5; isplitr
        · ipureintro; exact e5
        iexact H5
      isplitl [H6]
      · iexists d4, f6; isplitr
        · ipureintro; exact e6
        iexact H6
      isplitl [H7]
      · iexists _, _; isplitr; swap
        · iexact H7
        ipureintro; rfl
      isplitl [H8]
      · iexists _, _; isplitr; swap
        · iexact H8
        ipureintro; rfl
      isplitl [H9]
      · iexists _, _; isplitr; swap
        · iexact H9
        ipureintro; rfl
      iexists _, _; isplitr; swap; · iexact H10
      ipureintro; rfl

theorem defs₀_row (t : Fin cfg0.N) :
    defs₀ (F := F) .tc cfg0.body (cfg0.bodyArgs t (cfg0.slots t)) = bodyAt0 t := by
  unfold defs₀; rw [Defs.onTc_tc]

theorem body_obligationF (c : Dev nD) : BodyObligationLoose (datsF (F := F) m 0 c) (defs₀ (F := F)) Variants.none () Set.univ forgets := fun t => by
  rw [bigSep_W0, bigSep_W0, defs₀_row]
  exact triple_restated (sound_bodyF m c t) rfl .rfl fun _ => .rfl

/-! ## The run and the frame -/

theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl | rfl | rfl
  all_goals
    simp only [StableHlo.unary_writes, StableHlo.reshape_writes, Finset.mem_singleton] at hb
    rw [Proc.devRef_injective _ hb]; decide

/-- @main up to the region and after it, at the algebra of a kernel with copies of its own. -/
theorem hmainU (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
theorem run_mainF : θ_run defs (onTc (τ := τ) (main (F := F))) (s₀ m ρ)
    (fun r => Pipeline.RDat.FramePostR cfg0 (fun c => (datsF m 0 c).toRForget forgets) (R0 ∪ T0) (V m) r ∧ r.2.sem = fun _ => 0) :=
  Pipeline.θ_run_frame_dmaR_around_T_forget (Q' := _) cfgs (datsF m) (0 : Fin 1) launch0 osem0 defs₀ Variants.none forgets ownSemFacts0 H0 R0 T0 H0_sub R0_sub m ρ main
    (hbody := body_obligationF m) (hshare := fun c => (datsF m 0 c).share_full fun _ => rfl)
    (howed := fun _ _ => rfl) (V₀ := V0 m) (opss := [hostOps1]) (hsub := sfx_sub) (hfresh := sfx_fresh) (hkeep := sfx_keeps) (hT := sfx_writes)
    (hmain := hmainU m Variants.none) (hA := A_eq m) (hin := fun _ => .rfl) (hout := fun _ => .rfl)

/-- THE FRAME: the run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_mainF m ρ)

end Cert.KernelIdeal.Hand

end
-- ==== Proof.KBody.lean ====
/-
  The kernel's body run once in each of its three cases: the first grid point, a point in the middle, the last point.
  Each run holds the windows' buffers, the four scratch buffers, the two arrays in HBM its own copies use and their
  eight semaphores, and names the list of pieces each buffer has been written with. The contents the run starts from
  are arbitrary; what the pieces hold is read off in later modules.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The activations in HBM, transposed by the host. -/
abbrev xH : Memref sig .tc .hbm S4x2880x384 .fp8e4m3 := Memref.whole main_v3
/-- The input gradient in HBM, transposed. -/
abbrev dxH : Memref sig .tc .hbm S4x2880x384 .bf16 := Memref.whole main_v6_4
/-- The scratch copy of the activations. -/
abbrev xS : Memref sig .tc .vmem S2880x1536 .fp8e4m3 := Memref.whole cc0_scratch0
/-- The accumulator of the input gradient. -/
abbrev accS : Memref sig .tc .vmem S2880x1536 .f32 := Memref.whole cc0_scratch1
/-- The dequantised gradient of the current block of columns. -/
abbrev dysS : Memref sig .tc .vmem S1536x256 .bf16 := Memref.whole cc0_scratch2
/-- The staging buffer of the input gradient. -/
abbrev stS : Memref sig .tc .vmem S4x2880x384 .bf16 := Memref.whole cc0_scratch3
/-- The contents of the buffer under a view. -/
abbrev Bf (c : Dev nD) {sp : Space} {S : Shape} {e : EltTy} (M : Memref sig .tc sp S e) : Type := Buf (Elt F) (M.view.loc (c : Thread nD τ))
/-- The buffer under a view is held at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The two DMA semaphore arrays' eight counters, all at zero. -/
abbrev sems0 (c : Dev nD) : sProp 𝕄 :=
  iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

set_option sl_exec.dmaWindow true in
set_option sl_exec.dmaWindowSet true in
set_option maxHeartbeats 4000000 in
/-- The first grid point: the copies in, the zeroing, one block of columns. -/
noncomputable def runA (c : Dev nD) (i : grid0.Coords) (h1 : k0_cond1 i = 1#1) (h2 : k0_cond2 i = 1#1) (h3 : k0_cond3 i ≠ 1#1)
    (arg1 : Memref sig .tc .smem S1 .f32) (harg1 : arg1.IsWhole) (arg2 : Memref sig .tc .smem S1 .f32) (harg2 : arg2.IsWhole) (arg3 : Memref sig .tc .vmem S1536x256 .bf16) (harg3 : arg3.IsWhole) (arg5 : Memref sig .tc .vmem S2880x256 .fp8e4m3) (harg5 : arg5.IsWhole) (arg6 : Memref sig .tc .vmem S2880x256 .f32) (harg6 : arg6.IsWhole) (arg7 : Memref sig .tc .vmem S2880x256 .f32) (harg7 : arg7.IsWhole) (arg8 : Memref sig .tc .vmem S1536x256 .fp8e5m2) (harg8 : arg8.IsWhole) (arg9 : Memref sig .tc .vmem S3x4x45 .f32) (harg9 : arg9.IsWhole) (arg10 : Memref sig .tc .vmem S1x1 .f32) (harg10 : arg10.IsWhole)
    (f1 : Bf (F := F) c arg1) (f2 : Bf (F := F) c arg2) (f3 : Bf (F := F) c arg3) (f5 : Bf (F := F) c arg5) (f6 : Bf (F := F) c arg6)
    (fh : Bf (F := F) c xH) (fo : Bf (F := F) c dxH) :
    { L : List (View.Piece (Elt F) S2880x256 .f32) × List (View.Piece (Elt F) S1536x256 .fp8e5m2) × List (View.Piece (Elt F) S3x4x45 .f32) × List (View.Piece (Elt F) S1x1 .f32) × List (View.Piece (Elt F) S2880x1536 .fp8e4m3) × List (View.Piece (Elt F) S2880x1536 .f32) //
      ∀ (W : Waits sig Unit) (K : PUnit → sProp 𝕄),
        iprop(pt c arg1 f1 ∗ pt c arg2 f2 ∗ pt c arg3 f3 ∗ pt c arg5 f5 ∗ pt c arg6 f6 ∗ (∃ f, pt c arg7 f) ∗ (∃ f, pt c arg8 f) ∗ (∃ f, pt c arg9 f) ∗ (∃ f, pt c arg10 f) ∗ (∃ f, pt c xS f) ∗ (∃ f, pt c accS f) ∗ (∃ f, pt c dysS f) ∗ (∃ f, pt c stS f) ∗ pt c xH fh ∗ pt c dxH fo
            ∗ sems0 c ∗ owes (c : Thread nD τ) 0 W
            ∗ (iprop(pt c arg1 f1 ∗ pt c arg2 f2 ∗ pt c arg3 f3 ∗ pt c arg5 f5 ∗ pt c arg6 f6 ∗ (∃ f, pt c arg7 (arg7.view.writes (Elt F) f L.1)) ∗ (∃ f, pt c arg8 (arg8.view.writes (Elt F) f L.2.1)) ∗ (∃ f, pt c arg9 (arg9.view.writes (Elt F) f L.2.2.1)) ∗ (∃ f, pt c arg10 (arg10.view.writes (Elt F) f L.2.2.2.1)) ∗ (∃ f, pt c xS (xS.view.writes (Elt F) f L.2.2.2.2.1)) ∗ (∃ f, pt c accS (accS.view.writes (Elt F) f L.2.2.2.2.2)) ∗ (∃ f, pt c dysS f) ∗ (∃ f, pt c stS f) ∗ pt c xH fh ∗ pt c dxH fo
              ∗ sems0 c ∗ (∃ W', owes (c : Thread nD τ) 0 W')) -∗ K ⟨⟩))
          ⊢ wp frame (wpE (defs₀ (F := F)) Variants.none c none) Set.univ
              (cc0_fp8_linear_bwd i arg1 harg1 arg2 harg2 arg3 harg3 xH (Memref.isWhole_whole _) arg5 harg5 arg6 harg6 arg7 harg7 arg8 harg8 arg9 harg9 arg10 harg10 dxH (Memref.isWhole_whole _) xS (Memref.isWhole_whole _) accS (Memref.isWhole_whole _) dysS (Memref.isWhole_whole _) stS (Memref.isWhole_whole _) cc0_scratch4 cc0_scratch5) K } := by
  refine ⟨(?_, ?_, ?_, ?_, ?_, ?_), fun W K => ?run⟩
  case run =>
    simp only [cc0_fp8_linear_bwd_eq_skeleton]; unfold cc0_fp8_linear_bwd_skel
    iintro ⟨H1, H2, H3, H5, H6, ⟨%f7, H7⟩, ⟨%f8, H8⟩, ⟨%f9, H9⟩, ⟨%f10, H10⟩, ⟨%fx, HX⟩, ⟨%fa, HA⟩, ⟨%fd, HD⟩, ⟨%fs, HS⟩, HH, HO, ⟨Hq0, Hq1, Hq2, Hq3, Hp0, Hp1, Hp2, Hp3⟩, HW, Hk⟩
    sl_exec (disch := first | sl_exact h1 | sl_exact h2 | sl_exact h3)
    sl_step
    iapply Hk
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HX]; · iexists _; iexact HX
    isplitl [HA]; · iexists _; iexact HA
    isplitl [HD]; · iexists _; iexact HD
    isplitl [HS]; · iexists _; iexact HS
    isplitl [HH]; · iexact HH
    isplitl [HO]; · iexact HO
    isplitl [Hq0 Hq1 Hq2 Hq3 Hp0 Hp1 Hp2 Hp3]
    · isplitl [Hq0]; · iexact Hq0
      isplitl [Hq1]; · iexact Hq1
      isplitl [Hq2]; · iexact Hq2
      isplitl [Hq3]; · iexact Hq3
      isplitl [Hp0]; · iexact Hp0
      isplitl [Hp1]; · iexact Hp1
      isplitl [Hp2]; · iexact Hp2
      iexact Hp3
    iexists _; iexact HW

set_option sl_exec.dmaWindow true in
set_option sl_exec.dmaWindowSet true in
set_option maxHeartbeats 4000000 in
/-- A step between the first and the last. -/
noncomputable def runB (c : Dev nD) (i : grid0.Coords) (h1 : k0_cond1 i ≠ 1#1) (h2 : k0_cond2 i = 1#1) (h3 : k0_cond3 i ≠ 1#1)
    (arg1 : Memref sig .tc .smem S1 .f32) (harg1 : arg1.IsWhole) (arg2 : Memref sig .tc .smem S1 .f32) (harg2 : arg2.IsWhole) (arg3 : Memref sig .tc .vmem S1536x256 .bf16) (harg3 : arg3.IsWhole) (arg5 : Memref sig .tc .vmem S2880x256 .fp8e4m3) (harg5 : arg5.IsWhole) (arg6 : Memref sig .tc .vmem S2880x256 .f32) (harg6 : arg6.IsWhole) (arg7 : Memref sig .tc .vmem S2880x256 .f32) (harg7 : arg7.IsWhole) (arg8 : Memref sig .tc .vmem S1536x256 .fp8e5m2) (harg8 : arg8.IsWhole) (arg9 : Memref sig .tc .vmem S3x4x45 .f32) (harg9 : arg9.IsWhole) (arg10 : Memref sig .tc .vmem S1x1 .f32) (harg10 : arg10.IsWhole)
    (f1 : Bf (F := F) c arg1) (f2 : Bf (F := F) c arg2) (f3 : Bf (F := F) c arg3) (f5 : Bf (F := F) c arg5) (f6 : Bf (F := F) c arg6)
    (f9 : Bf (F := F) c arg9) (f10 : Bf (F := F) c arg10) (fx : Bf (F := F) c xS) (fa : Bf (F := F) c accS) (fh : Bf (F := F) c xH) (fo : Bf (F := F) c dxH) :
    { L : List (View.Piece (Elt F) S2880x256 .f32) × List (View.Piece (Elt F) S1536x256 .fp8e5m2) × List (View.Piece (Elt F) S3x4x45 .f32) × List (View.Piece (Elt F) S1x1 .f32) × List (View.Piece (Elt F) S2880x1536 .f32) //
      ∀ (W : Waits sig Unit) (K : PUnit → sProp 𝕄),
        iprop(pt c arg1 f1 ∗ pt c arg2 f2 ∗ pt c arg3 f3 ∗ pt c arg5 f5 ∗ pt c arg6 f6 ∗ (∃ f, pt c arg7 f) ∗ (∃ f, pt c arg8 f) ∗ pt c arg9 f9 ∗ pt c arg10 f10 ∗ pt c xS fx ∗ pt c accS fa ∗ (∃ f, pt c dysS f) ∗ (∃ f, pt c stS f) ∗ pt c xH fh ∗ pt c dxH fo
            ∗ sems0 c ∗ owes (c : Thread nD τ) 0 W
            ∗ (iprop(pt c arg1 f1 ∗ pt c arg2 f2 ∗ pt c arg3 f3 ∗ pt c arg5 f5 ∗ pt c arg6 f6 ∗ (∃ f, pt c arg7 (arg7.view.writes (Elt F) f L.1)) ∗ (∃ f, pt c arg8 (arg8.view.writes (Elt F) f L.2.1)) ∗ pt c arg9 (arg9.view.writes (Elt F) f9 L.2.2.1) ∗ pt c arg10 (arg10.view.writes (Elt F) f10 L.2.2.2.1) ∗ pt c xS fx ∗ pt c accS (accS.view.writes (Elt F) fa L.2.2.2.2) ∗ (∃ f, pt c dysS f) ∗ (∃ f, pt c stS f) ∗ pt c xH fh ∗ pt c dxH fo
              ∗ sems0 c ∗ (∃ W', owes (c : Thread nD τ) 0 W')) -∗ K ⟨⟩))
          ⊢ wp frame (wpE (defs₀ (F := F)) Variants.none c none) Set.univ
              (cc0_fp8_linear_bwd i arg1 harg1 arg2 harg2 arg3 harg3 xH (Memref.isWhole_whole _) arg5 harg5 arg6 harg6 arg7 harg7 arg8 harg8 arg9 harg9 arg10 harg10 dxH (Memref.isWhole_whole _) xS (Memref.isWhole_whole _) accS (Memref.isWhole_whole _) dysS (Memref.isWhole_whole _) stS (Memref.isWhole_whole _) cc0_scratch4 cc0_scratch5) K } := by
  refine ⟨(?_, ?_, ?_, ?_, ?_), fun W K => ?run⟩
  case run =>
    simp only [cc0_fp8_linear_bwd_eq_skeleton]; unfold cc0_fp8_linear_bwd_skel
    iintro ⟨H1, H2, H3, H5, H6, ⟨%f7, H7⟩, ⟨%f8, H8⟩, H9, H10, HX, HA, ⟨%fd, HD⟩, ⟨%fs, HS⟩, HH, HO, ⟨Hq0, Hq1, Hq2, Hq3, Hp0, Hp1, Hp2, Hp3⟩, HW, Hk⟩
    sl_exec (disch := first | sl_exact h1 | sl_exact h2 | sl_exact h3)
    sl_step
    iapply Hk
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexact H9
    isplitl [H10]; · iexact H10
    isplitl [HX]; · iexact HX
    isplitl [HA]; · iexact HA
    isplitl [HD]; · iexists _; iexact HD
    isplitl [HS]; · iexists _; iexact HS
    isplitl [HH]; · iexact HH
    isplitl [HO]; · iexact HO
    isplitl [Hq0 Hq1 Hq2 Hq3 Hp0 Hp1 Hp2 Hp3]
    · isplitl [Hq0]; · iexact Hq0
      isplitl [Hq1]; · iexact Hq1
      isplitl [Hq2]; · iexact Hq2
      isplitl [Hq3]; · iexact Hq3
      isplitl [Hp0]; · iexact Hp0
      isplitl [Hp1]; · iexact Hp1
      isplitl [Hp2]; · iexact Hp2
      iexact Hp3
    iexists _; iexact HW

set_option sl_exec.dmaWindow true in
set_option sl_exec.dmaWindowSet true in
set_option maxHeartbeats 4000000 in
/-- The last step. -/
noncomputable def runC (c : Dev nD) (i : grid0.Coords) (h1 : k0_cond1 i ≠ 1#1) (h2 : k0_cond2 i ≠ 1#1) (h3 : k0_cond3 i = 1#1)
    (arg1 : Memref sig .tc .smem S1 .f32) (harg1 : arg1.IsWhole) (arg2 : Memref sig .tc .smem S1 .f32) (harg2 : arg2.IsWhole) (arg3 : Memref sig .tc .vmem S1536x256 .bf16) (harg3 : arg3.IsWhole) (arg5 : Memref sig .tc .vmem S2880x256 .fp8e4m3) (harg5 : arg5.IsWhole) (arg6 : Memref sig .tc .vmem S2880x256 .f32) (harg6 : arg6.IsWhole) (arg7 : Memref sig .tc .vmem S2880x256 .f32) (harg7 : arg7.IsWhole) (arg8 : Memref sig .tc .vmem S1536x256 .fp8e5m2) (harg8 : arg8.IsWhole) (arg9 : Memref sig .tc .vmem S3x4x45 .f32) (harg9 : arg9.IsWhole) (arg10 : Memref sig .tc .vmem S1x1 .f32) (harg10 : arg10.IsWhole)
    (f1 : Bf (F := F) c arg1) (f2 : Bf (F := F) c arg2) (f3 : Bf (F := F) c arg3) (f5 : Bf (F := F) c arg5) (f6 : Bf (F := F) c arg6)
    (f9 : Bf (F := F) c arg9) (f10 : Bf (F := F) c arg10) (fx : Bf (F := F) c xS) (fa : Bf (F := F) c accS) (fh : Bf (F := F) c xH) (fo : Bf (F := F) c dxH) :
    { L : List (View.Piece (Elt F) S2880x256 .f32) × List (View.Piece (Elt F) S1536x256 .fp8e5m2) × List (View.Piece (Elt F) S3x4x45 .f32) × List (View.Piece (Elt F) S1x1 .f32) × List (View.Piece (Elt F) S2880x1536 .f32) × (Bf (F := F) c stS → Bf (F := F) c dxH) //
      ∀ (W : Waits sig Unit) (K : PUnit → sProp 𝕄),
        iprop(pt c arg1 f1 ∗ pt c arg2 f2 ∗ pt c arg3 f3 ∗ pt c arg5 f5 ∗ pt c arg6 f6 ∗ (∃ f, pt c arg7 f) ∗ (∃ f, pt c arg8 f) ∗ pt c arg9 f9 ∗ pt c arg10 f10 ∗ pt c xS fx ∗ pt c accS fa ∗ (∃ f, pt c dysS f) ∗ (∃ f, pt c stS f) ∗ pt c xH fh ∗ pt c dxH fo
            ∗ sems0 c ∗ owes (c : Thread nD τ) 0 W
            ∗ (iprop(pt c arg1 f1 ∗ pt c arg2 f2 ∗ pt c arg3 f3 ∗ pt c arg5 f5 ∗ pt c arg6 f6 ∗ (∃ f, pt c arg7 (arg7.view.writes (Elt F) f L.1)) ∗ (∃ f, pt c arg8 (arg8.view.writes (Elt F) f L.2.1)) ∗ pt c arg9 (arg9.view.writes (Elt F) f9 L.2.2.1) ∗ pt c arg10 (arg10.view.writes (Elt F) f10 L.2.2.2.1) ∗ pt c xS fx ∗ pt c accS (accS.view.writes (Elt F) fa L.2.2.2.2.1) ∗ (∃ f, pt c dysS f) ∗ (∃ f, pt c stS f) ∗ pt c xH fh ∗ (∃ fs, pt c dxH (L.2.2.2.2.2 fs))
              ∗ sems0 c ∗ (∃ W', owes (c : Thread nD τ) 0 W')) -∗ K ⟨⟩))
          ⊢ wp frame (wpE (defs₀ (F := F)) Variants.none c none) Set.univ
              (cc0_fp8_linear_bwd i arg1 harg1 arg2 harg2 arg3 harg3 xH (Memref.isWhole_whole _) arg5 harg5 arg6 harg6 arg7 harg7 arg8 harg8 arg9 harg9 arg10 harg10 dxH (Memref.isWhole_whole _) xS (Memref.isWhole_whole _) accS (Memref.isWhole_whole _) dysS (Memref.isWhole_whole _) stS (Memref.isWhole_whole _) cc0_scratch4 cc0_scratch5) K } := by
  refine ⟨(?_, ?_, ?_, ?_, ?_, ?_), fun W K => ?run⟩
  case run =>
    simp only [cc0_fp8_linear_bwd_eq_skeleton]; unfold cc0_fp8_linear_bwd_skel
    iintro ⟨H1, H2, H3, H5, H6, ⟨%f7, H7⟩, ⟨%f8, H8⟩, H9, H10, HX, HA, ⟨%fd, HD⟩, ⟨%fs, HS⟩, HH, HO, ⟨Hq0, Hq1, Hq2, Hq3, Hp0, Hp1, Hp2, Hp3⟩, HW, Hk⟩
    sl_exec (disch := first | sl_exact h1 | sl_exact h2 | sl_exact h3)
    sl_step
    iapply Hk
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexact H9
    isplitl [H10]; · iexact H10
    isplitl [HX]; · iexact HX
    isplitl [HA]; · iexact HA
    isplitl [HD]; · iexists _; iexact HD
    isplitl [HS]; · iexists _; iexact HS
    isplitl [HH]; · iexact HH
    isplitl [HO]; · iexists fs; iexact HO
    isplitl [Hq0 Hq1 Hq2 Hq3 Hp0 Hp1 Hp2 Hp3]
    · isplitl [Hq0]; · iexact Hq0
      isplitl [Hq1]; · iexact Hq1
      isplitl [Hq2]; · iexact Hq2
      isplitl [Hq3]; · iexact Hq3
      isplitl [Hp0]; · iexact Hp0
      isplitl [Hp1]; · iexact Hp1
      isplitl [Hp2]; · iexact Hp2
      iexact Hp3
    iexists _; iexact HW

end Cert.Kernel.Hand

end
-- ==== Proof.KFrame.lean ====
/-
  The frame of the kernel: it runs, it ends with every argument array as it was and with every counter at zero.
  The pipeline's own windows are handled by the library; the kernel's own copies (the activations in, the input
  gradient out) run inside the body (KBody.lean). Nothing is said here of what the results hold.
-/
module

public import proofs.«01_k».proof.Proof.KBody
public import proofs.«01_k».proof.Proof.Gen.Kernel.Frame
public import Idealize.ShloMosaic.Lib.Pipeline.FrameSuffixR

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The eight semaphores of the kernel's own copies: four for the copies in, four for the copies out. -/
abbrev osem0 : Fin 8 → SemLoc sig := fun j =>
  (![SemLoc.dma 14, SemLoc.dma 15, SemLoc.dma 16, SemLoc.dma 17, SemLoc.dma 18, SemLoc.dma 19, SemLoc.dma 20, SemLoc.dma 21] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 [0, 1, 2, 3, 4, 5, 6, 7] (by decide) (by decide)]; rfl

/-- The array the kernel's own copies read, and the one they write. -/
def H0 : Finset (Ref sig .tc) := {main_v3}
def R0 : Finset (Ref sig .tc) := {main_v6_4}
theorem H0_sub : H0 ⊆ Pipeline.restRefs sig spec0 := by decide
theorem R0_sub : R0 ⊆ Pipeline.restRefs sig spec0 \ H0 := by decide

/-- The buffers the lines after the region write. -/
def T0 : Finset (Ref sig .tc) := {main_v7, main_v8, main_v9, main_v10, main_v11}

theorem pt_whole (c : Dev nD) (b : Ref sig .tc) (f : Buf (Elt F) ((c : Thread nD τ).loc b)) :
    pt c (Memref.whole b) f = iprop(((c : Thread nD τ).loc b) ↦{fullShare} f) := by
  show iprop(_ ↦[(View.whole b).set]{fullShare} f) = _
  rw [View.set_whole]

theorem ex_pt_whole (c : Dev nD) (b : Ref sig .tc) :
    (iprop(∃ f, pt c (Memref.whole b) f) : sProp 𝕄) = iprop(∃ f : Buf (Elt F) ((c : Thread nD τ).loc b), ((c : Thread nD τ).loc b) ↦{fullShare} f) :=
  congrArg BIBase.exists (funext fun f => pt_whole c b f)

theorem hbmPts0_eq (c : Dev nD) :
    (bigSep H0 (fun b => ((c : Thread nD τ).loc b) ↦{fullShare} V m c b) : sProp 𝕄) = pt c xH (V m c main_v3) := by
  rw [BI.bigSep_eq_bigSepL_of_eq [main_v3] (by decide) (by decide), pt_whole]; rfl

theorem ownedPts0_eq (c : Dev nD) :
    (Pipeline.owned R0 c : sProp 𝕄) = iprop(∃ f, pt c dxH f) := by
  unfold Pipeline.owned; rw [BI.bigSep_eq_bigSepL_of_eq [main_v6_4] (by decide) (by decide)]
  exact (ex_pt_whole c main_v6_4).symm

theorem scopedPts0_eq (c : Dev nD) :
    (Pipeline.scopedRest (Ix := Unit) (Name := ℕ) (U := Pipeline.UD sig nD τ) (Lvl := ℕ) (Val := Elt F) spec0 c : sProp 𝕄)
      = iprop((∃ f, pt c xS f) ∗ (∃ f, pt c accS f) ∗ (∃ f, pt c dysS f) ∗ (∃ f, pt c stS f)) := by
  rw [scopedRest0_eq, show (iprop(∃ f, pt c xS f) : sProp 𝕄) = _ from ex_pt_whole c cc0_scratch0,
    show (iprop(∃ f, pt c accS f) : sProp 𝕄) = _ from ex_pt_whole c cc0_scratch1,
    show (iprop(∃ f, pt c dysS f) : sProp 𝕄) = _ from ex_pt_whole c cc0_scratch2,
    show (iprop(∃ f, pt c stS f) : sProp 𝕄) = _ from ex_pt_whole c cc0_scratch3]

theorem PhiDR0_eq (c : Dev nD) :
    (Pipeline.ΦDR osem0 spec0 H0 R0 (V m) c : sProp 𝕄)
      = iprop(iprop((∃ f, pt c xS f) ∗ (∃ f, pt c accS f) ∗ (∃ f, pt c dysS f) ∗ (∃ f, pt c stS f))
          ∗ (∃ r, prngReg c r) ∗ sems0 c ∗ pt c xH (V m c main_v3) ∗ (∃ f, pt c dxH f)) := by
  rw [Pipeline.ΦDR_eq, scopedPts0_eq, ownSems00_eq, hbmPts0_eq, ownedPts0_eq]

/-- The body's three branches by the grid point: the first runs at point 0, the second at every point but the last, the
    third at the last. -/
theorem cond1_iff (t : Fin cfg0.N) : k0_cond1 (grid0.coords t) = 1#1 ↔ t.val = 0 :=
  (by decide : ∀ t : Fin grid0.N, k0_cond1 (grid0.coords t) = 1#1 ↔ t.val = 0) t
theorem cond2_iff (t : Fin cfg0.N) : k0_cond2 (grid0.coords t) = 1#1 ↔ t.val ≠ 22 :=
  (by decide : ∀ t : Fin grid0.N, k0_cond2 (grid0.coords t) = 1#1 ↔ t.val ≠ 22) t
theorem cond3_iff (t : Fin cfg0.N) : k0_cond3 (grid0.coords t) = 1#1 ↔ t.val = 22 :=
  (by decide : ∀ t : Fin grid0.N, k0_cond3 (grid0.coords t) = 1#1 ↔ t.val = 22) t

/-- The outputs, of which the frame says nothing. -/
abbrev forgets : Fin 9 → Bool := ![false, false, false, false, false, true, true, true, true]

/-- The proof data: the arrays as the region finds them, each input's buffer left as fetched, the outputs' not named. -/
def datsF (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Classical.ofNonempty) (iblk m c 2 t)
    | ⟨3, _⟩ => (cfg0.win 3).fill (cfg0.grid.coords t) (fun _ => Classical.ofNonempty) (iblk m c 3 t)
    | ⟨4, _⟩ => (cfg0.win 4).fill (cfg0.grid.coords t) (fun _ => Classical.ofNonempty) (iblk m c 4 t)
    | ⟨5, _⟩ => fun _ => Classical.ofNonempty
    | ⟨6, _⟩ => fun _ => Classical.ofNonempty
    | ⟨7, _⟩ => fun _ => Classical.ofNonempty
    | ⟨8, _⟩ => fun _ => Classical.ofNonempty
  Φ _ := Pipeline.ΦDR osem0 spec0 H0 R0 (V m) c
  q _ := fullShare
  owed _ := 0

theorem A_eq (c : Dev nD) (w : Fin cfg0.W) : (datsF m 0 c).A w = V m c (Pipeline.arrRef spec0 w) := by dsimp only [datsF]

theorem beforeF_0 (c : Dev nD) (t : Fin cfg0.N) (d) : (datsF m 0 c).before 0 t d = iblk m c 0 t :=
  ((datsF m 0 c).before_in_eq_fetched 0 rfl (fun _ => rfl) (fun _ _ _ => rfl)
    (fun t => by dsimp only [datsF]; unfold Dat.blockOf iblk; rfl) t d).trans
    (by unfold Dat.fetched Dat.blockOf iblk; rw [A_eq]; rfl)
theorem beforeF_1 (c : Dev nD) (t : Fin cfg0.N) (d) : (datsF m 0 c).before 1 t d = iblk m c 1 t :=
  ((datsF m 0 c).before_in_eq_fetched 1 rfl (fun _ => rfl) (fun _ _ _ => rfl)
    (fun t => by dsimp only [datsF]; unfold Dat.blockOf iblk; rfl) t d).trans
    (by unfold Dat.fetched Dat.blockOf iblk; rw [A_eq]; rfl)
theorem beforeF_2 (c : Dev nD) (t : Fin cfg0.N) (d) :
    (datsF m 0 c).before 2 t d = (cfg0.win 2).fill (cfg0.grid.coords t) d (iblk m c 2 t) := by
  unfold Dat.before; rw [if_pos (fetch0_2 t)]; unfold Dat.fetched Dat.blockOf iblk; rw [A_eq]
theorem beforeF_3 (c : Dev nD) (t : Fin cfg0.N) (d) :
    (datsF m 0 c).before 3 t d = (cfg0.win 3).fill (cfg0.grid.coords t) d (iblk m c 3 t) := by
  unfold Dat.before; rw [if_pos (fetch0_3 t)]; unfold Dat.fetched Dat.blockOf iblk; rw [A_eq]
theorem beforeF_4 (c : Dev nD) (t : Fin cfg0.N) (d) :
    (datsF m 0 c).before 4 t d = (cfg0.win 4).fill (cfg0.grid.coords t) d (iblk m c 4 t) := by
  unfold Dat.before; rw [if_pos (fetch0_4 t)]; unfold Dat.fetched Dat.blockOf iblk; rw [A_eq]
theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem cutF_2 (c : Dev nD) (t : Fin cfg0.N) : (cfg0.win 2).cut (cfg0.grid.coords t) ((datsF m 0 c).after 2 t) = iblk m c 2 t := by
  dsimp only [datsF]; rw [(cfg0.win 2).cut_fill]
theorem cutF_3 (c : Dev nD) (t : Fin cfg0.N) : (cfg0.win 3).cut (cfg0.grid.coords t) ((datsF m 0 c).after 3 t) = iblk m c 3 t := by
  dsimp only [datsF]; rw [(cfg0.win 3).cut_fill]
theorem cutF_4 (c : Dev nD) (t : Fin cfg0.N) : (cfg0.win 4).cut (cfg0.grid.coords t) ((datsF m 0 c).after 4 t) = iblk m c 4 t := by
  dsimp only [datsF]; rw [(cfg0.win 4).cut_fill]

/-- What the body is handed at a point, and what it must leave. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ (∃ d, owns (c : Thread nD τ) (st0_2 t) fullShare ((cfg0.win 2).fill (cfg0.grid.coords t) d ((cfg0.win 2).cut (cfg0.grid.coords t) ((datsF m 0 c).after 2 t))))
    ∗ (∃ d, owns (c : Thread nD τ) (st0_3 t) fullShare ((cfg0.win 3).fill (cfg0.grid.coords t) d ((cfg0.win 3).cut (cfg0.grid.coords t) ((datsF m 0 c).after 3 t))))
    ∗ (∃ d, owns (c : Thread nD τ) (st0_4 t) fullShare ((cfg0.win 4).fill (cfg0.grid.coords t) d ((cfg0.win 4).cut (cfg0.grid.coords t) ((datsF m 0 c).after 4 t))))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- Buffers held at the contents the body left, as the obligation states them. -/
theorem owns_intro (c : Dev nD) {sp : Space} {S : Shape} {e : EltTy} (M : Memref sig .tc sp S e) (f : Bf (F := F) c M) :
    pt c M f ⊢ (owns (c : Thread nD τ) M fullShare (M.view.read (Elt F) f) : sProp 𝕄) := by
  unfold owns; iintro H; iexists f; isplitr; · ipureintro; rfl
  iexact H

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [cutF_2, cutF_3, cutF_4]
  simp only [beforeF_0, beforeF_1, beforeF_2, beforeF_3, beforeF_4, afterF_0, afterF_1]
  rw [show (datsF m 0 c).Φ t.succ = Pipeline.ΦDR osem0 spec0 H0 R0 (V m) c from rfl,
    show (datsF m 0 c).Φ t.castSucc = Pipeline.ΦDR osem0 spec0 H0 R0 (V m) c from rfl, PhiDR0_eq]
  unfold Dat.owesAt Pipeline.owesWithin
  rw [show (datsF m 0 c).owed t.castSucc = 0 from rfl, show (datsF m 0 c).owed t.succ = 0 from rfl]
  unfold owns
  iintro ⟨⟨⟨HX, HA, HD, HS⟩, Hg, Hq, HH, ⟨%fo, HO⟩⟩, ⟨%W, -, HW⟩, ⟨%d0, %f1, %e1, H1⟩, ⟨%d1, %f2, %e2, H2⟩, ⟨%d2, %f3, %e3, H3⟩, ⟨%d3, %f5, %e5, H5⟩, ⟨%d4, %f6, %e6, H6⟩, ⟨%X7, %f7, %e7, H7⟩, ⟨%X8, %f8, %e8, H8⟩, ⟨%X9, %f9, %e9, H9⟩, ⟨%X10, %f10, %e10, H10⟩⟩
  by_cases ht0 : t.val = 0
  · have h1 := (cond1_iff t).2 ht0
    have h2 := (cond2_iff t).2 (by omega)
    have h3 : k0_cond3 (grid0.coords t) ≠ 1#1 := fun h => by have := (cond3_iff t).1 h; omega
    iapply ((runA c (grid0.coords t) h1 h2 h3 _ _ _ _ _ _ _ _ _ _ _ _ _ _ _ _ _ _ f1 f2 f3 f5 f6 (V m c main_v3) fo).2 W _)
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HX]; · iexact HX
    isplitl [HA]; · iexact HA
    isplitl [HD]; · iexact HD
    isplitl [HS]; · iexact HS
    isplitl [HH]; · iexact HH
    isplitl [HO]; · iexact HO
    isplitl [Hq]; · iexact Hq
    isplitl [HW]; · iexact HW
    iintro ⟨H1, H2, H3, H5, H6, ⟨%g7, H7⟩, ⟨%g8, H8⟩, ⟨%g9, H9⟩, ⟨%g10, H10⟩, ⟨%gx, HX⟩, ⟨%ga, HA⟩, HD, HS, HH, HO, Hq, ⟨%W', HW⟩⟩
    isplitl [HX HA HD HS Hg Hq HH HO]
    · isplitl [HX HA HD HS]
      · isplitl [HX]; · iexists _; iexact HX
        isplitl [HA]; · iexists _; iexact HA
        isplitl [HD]; · iexact HD
        iexact HS
      isplitl [Hg]; · iexact Hg
      isplitl [Hq]; · iexact Hq
      isplitl [HH]; · iexact HH
      iexists _; iexact HO
    isplitl [HW]
    · iexists W'; isplitr
      · ipureintro; exact fun _ _ => Or.inl trivial
      iexact HW
    isplitl [H1]
    · iexists f1; isplitr
      · ipureintro; exact e1
      iexact H1
    isplitl [H2]
    · iexists f2; isplitr
      · ipureintro; exact e2
      iexact H2
    isplitl [H3]
    · iexists d2, f3; isplitr
      · ipureintro; exact e3
      iexact H3
    isplitl [H5]
    · iexists d3, f5; isplitr
      · ipureintro; exact e5
      iexact H5
    isplitl [H6]
    · iexists d4, f6; isplitr
      · ipureintro; exact e6
      iexact H6
    isplitl [H7]
    · iexists _, _; isplitr; swap
      · iexact H7
      ipureintro; rfl
    isplitl [H8]
    · iexists _, _; isplitr; swap
      · iexact H8
      ipureintro; rfl
    isplitl [H9]
    · iexists _, _; isplitr; swap
      · iexact H9
      ipureintro; rfl
    iexists _, _; isplitr; swap; · iexact H10
    ipureintro; rfl
  · by_cases ht22 : t.val = 22
    · have h1 : k0_cond1 (grid0.coords t) ≠ 1#1 := fun h => ht0 ((cond1_iff t).1 h)
      have h2 : k0_cond2 (grid0.coords t) ≠ 1#1 := fun h => (cond2_iff t).1 h ht22
      have h3 := (cond3_iff t).2 ht22
      icases HX with ⟨%fx, HX⟩
      icases HA with ⟨%fa, HA⟩
      iapply ((runC c (grid0.coords t) h1 h2 h3 _ _ _ _ _ _ _ _ _ _ _ _ _ _ _ _ _ _ f1 f2 f3 f5 f6 f9 f10 fx fa (V m c main_v3) fo).2 W _)
      isplitl [H1]; · iexact H1
      isplitl [H2]; · iexact H2
      isplitl [H3]; · iexact H3
      isplitl [H5]; · iexact H5
      isplitl [H6]; · iexact H6
      isplitl [H7]; · iexists _; iexact H7
      isplitl [H8]; · iexists _; iexact H8
      isplitl [H9]; · iexact H9
      isplitl [H10]; · iexact H10
      isplitl [HX]; · iexact HX
      isplitl [HA]; · iexact HA
      isplitl [HD]; · iexact HD
      isplitl [HS]; · iexact HS
      isplitl [HH]; · iexact HH
      isplitl [HO]; · iexact HO
      isplitl [Hq]; · iexact Hq
      isplitl [HW]; · iexact HW
      iintro ⟨H1, H2, H3, H5, H6, ⟨%g7, H7⟩, ⟨%g8, H8⟩, H9, H10, HX, HA, HD, HS, HH, ⟨%go, HO⟩, Hq, ⟨%W', HW⟩⟩
      isplitl [HX HA HD HS Hg Hq HH HO]
      · isplitl [HX HA HD HS]
        · isplitl [HX]; · iexists _; iexact HX
          isplitl [HA]; · iexists _; iexact HA
          isplitl [HD]; · iexact HD
          iexact HS
        isplitl [Hg]; · iexact Hg
        isplitl [Hq]; · iexact Hq
        isplitl [HH]; · iexact HH
        iexists _; iexact HO
      isplitl [HW]
      · iexists W'; isplitr
        · ipureintro; exact fun _ _ => Or.inl trivial
        iexact HW
      isplitl [H1]
      · iexists f1; isplitr
        · ipureintro; exact e1
        iexact H1
      isplitl [H2]
      · iexists f2; isplitr
        · ipureintro; exact e2
        iexact H2
      isplitl [H3]
      · iexists d2, f3; isplitr
        · ipureintro; exact e3
        iexact H3
      isplitl [H5]
      · iexists d3, f5; isplitr
        · ipureintro; exact e5
        iexact H5
      isplitl [H6]
      · iexists d4, f6; isplitr
        · ipureintro; exact e6
        iexact H6
      isplitl [H7]
      · iexists _, _; isplitr; swap
        · iexact H7
        ipureintro; rfl
      isplitl [H8]
      · iexists _, _; isplitr; swap
        · iexact H8
        ipureintro; rfl
      isplitl [H9]
      · iexists _, _; isplitr; swap
        · iexact H9
        ipureintro; rfl
      iexists _, _; isplitr; swap; · iexact H10
      ipureintro; rfl
    · have h1 : k0_cond1 (grid0.coords t) ≠ 1#1 := fun h => ht0 ((cond1_iff t).1 h)
      have h2 := (cond2_iff t).2 ht22
      have h3 : k0_cond3 (grid0.coords t) ≠ 1#1 := fun h => ht22 ((cond3_iff t).1 h)
      icases HX with ⟨%fx, HX⟩
      icases HA with ⟨%fa, HA⟩
      iapply ((runB c (grid0.coords t) h1 h2 h3 _ _ _ _ _ _ _ _ _ _ _ _ _ _ _ _ _ _ f1 f2 f3 f5 f6 f9 f10 fx fa (V m c main_v3) fo).2 W _)
      isplitl [H1]; · iexact H1
      isplitl [H2]; · iexact H2
      isplitl [H3]; · iexact H3
      isplitl [H5]; · iexact H5
      isplitl [H6]; · iexact H6
      isplitl [H7]; · iexists _; iexact H7
      isplitl [H8]; · iexists _; iexact H8
      isplitl [H9]; · iexact H9
      isplitl [H10]; · iexact H10
      isplitl [HX]; · iexact HX
      isplitl [HA]; · iexact HA
      isplitl [HD]; · iexact HD
      isplitl [HS]; · iexact HS
      isplitl [HH]; · iexact HH
      isplitl [HO]; · iexact HO
      isplitl [Hq]; · iexact Hq
      isplitl [HW]; · iexact HW
      iintro ⟨H1, H2, H3, H5, H6, ⟨%g7, H7⟩, ⟨%g8, H8⟩, H9, H10, HX, HA, HD, HS, HH, HO, Hq, ⟨%W', HW⟩⟩
      isplitl [HX HA HD HS Hg Hq HH HO]
      · isplitl [HX HA HD HS]
        · isplitl [HX]; · iexists _; iexact HX
          isplitl [HA]; · iexists _; iexact HA
          isplitl [HD]; · iexact HD
          iexact HS
        isplitl [Hg]; · iexact Hg
        isplitl [Hq]; · iexact Hq
        isplitl [HH]; · iexact HH
        iexists _; iexact HO
      isplitl [HW]
      · iexists W'; isplitr
        · ipureintro; exact fun _ _ => Or.inl trivial
        iexact HW
      isplitl [H1]
      · iexists f1; isplitr
        · ipureintro; exact e1
        iexact H1
      isplitl [H2]
      · iexists f2; isplitr
        · ipureintro; exact e2
        iexact H2
      isplitl [H3]
      · iexists d2, f3; isplitr
        · ipureintro; exact e3
        iexact H3
      isplitl [H5]
      · iexists d3, f5; isplitr
        · ipureintro; exact e5
        iexact H5
      isplitl [H6]
      · iexists d4, f6; isplitr
        · ipureintro; exact e6
        iexact H6
      isplitl [H7]
      · iexists _, _; isplitr; swap
        · iexact H7
        ipureintro; rfl
      isplitl [H8]
      · iexists _, _; isplitr; swap
        · iexact H8
        ipureintro; rfl
      isplitl [H9]
      · iexists _, _; isplitr; swap
        · iexact H9
        ipureintro; rfl
      iexists _, _; isplitr; swap; · iexact H10
      ipureintro; rfl

theorem defs₀_row (t : Fin cfg0.N) :
    defs₀ (F := F) .tc cfg0.body (cfg0.bodyArgs t (cfg0.slots t)) = bodyAt0 t := by
  unfold defs₀; rw [Defs.onTc_tc]

theorem body_obligationF (c : Dev nD) : BodyObligationLoose (datsF (F := F) m 0 c) (defs₀ (F := F)) Variants.none () Set.univ forgets := fun t => by
  rw [bigSep_W0, bigSep_W0, defs₀_row]
  exact triple_restated (sound_bodyF m c t) rfl .rfl fun _ => .rfl

/-! ## The run and the frame -/

theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl | rfl | rfl
  all_goals
    simp only [StableHlo.unary_writes, StableHlo.reshape_writes, Finset.mem_singleton] at hb
    rw [Proc.devRef_injective _ hb]; decide

/-- @main up to the region and after it, at the algebra of a kernel with copies of its own. -/
theorem hmainU (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
theorem run_mainF : θ_run defs (onTc (τ := τ) (main (F := F))) (s₀ m ρ)
    (fun r => Pipeline.RDat.FramePostR cfg0 (fun c => (datsF m 0 c).toRForget forgets) (R0 ∪ T0) (V m) r ∧ r.2.sem = fun _ => 0) :=
  Pipeline.θ_run_frame_dmaR_around_T_forget (Q' := _) cfgs (datsF m) (0 : Fin 1) launch0 osem0 defs₀ Variants.none forgets ownSemFacts0 H0 R0 T0 H0_sub R0_sub m ρ main
    (hbody := body_obligationF m) (hshare := fun c => (datsF m 0 c).share_full fun _ => rfl)
    (howed := fun _ _ => rfl) (V₀ := V0 m) (opss := [hostOps1]) (hsub := sfx_sub) (hfresh := sfx_fresh) (hkeep := sfx_keeps) (hT := sfx_writes)
    (hmain := hmainU m Variants.none) (hA := A_eq m) (hin := fun _ => .rfl) (hout := fun _ => .rfl)

/-- THE FRAME: the run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_mainF m ρ)

end Cert.Kernel.Hand

end
-- ==== Proof.Tiles.lean ====
/-
  What the runs of Body.lean write, told tile by tile. One tile of the gradient is quantised by `AMAX`, `EXPN`, `SCB`,
  `CODE` and `DYS`; a run's pieces are the same functions of its tiles, one after the other, and the two matrix products
  of their results.
-/
module

public import proofs.«01_k».proof.Proof.Body
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One tile of the quantiser -/

/-- The tile's largest magnitude. -/
def AMAX (v : Vec F S128x128 .bf16) : FVec F S1x1 .f32 := k0_pay9 v
/-- The tile's exponent. -/
def EXPN (v : Vec F S128x128 .bf16) : IVec S1x1 32 := k0_pay10 v
/-- The tile's scale. -/
def SCB (v : Vec F S128x128 .bf16) : FVec F S1x1 .f32 := k0_pay12 (k0_pay11 v)
/-- The tile's codes. -/
def CODE (v : Vec F S128x128 .bf16) : FVec F S128x128 .fp8e5m2 := k0_pay13 (k0_pay8 v) (k0_pay10 v)
/-- The codes times the scale. -/
def DYS (v : Vec F S128x128 .bf16) : FVec F S128x128 .bf16 := k0_pay14 (k0_pay8 v) (k0_pay10 v) (k0_pay11 v)

/-- One tile's scale put into the array of scales: tile number `k` down the rows, column tile `w * 2 + j`. -/
def SEL (w : BitVec 32) (j k : ℕ) (sc : FVec F S1x1 .f32) (s : FVec F S3x4x45 .f32) : FVec F S3x4x45 .f32 :=
  select (andi (andi (cmpi .eq (iota .tc S3x4x45 32 [2] iota_S3x4x45_d2_w32) (broadcast S3x4x45 (Scalar.addi (Scalar.muli w 2#32) (BitVec.ofNat 32 j))))
      (cmpi .eq (iota .tc S3x4x45 32 [0] iota_S3x4x45_d0_w32) (broadcast S3x4x45 (BitVec.ofNat 32 (k % 3)))))
      (cmpi .eq (iota .tc S3x4x45 32 [1] iota_S3x4x45_d1_w32) (broadcast S3x4x45 (BitVec.ofNat 32 (k / 3)))))
    (broadcastTo S3x4x45 (shapeCast S1x1x1 (shapeCast S1x1x1 sc shapeCasts_S1x1_S1x1x1) shapeCasts_S1x1x1_S1x1x1) broadcasts_S1x1x1_S3x4x45) s

/-! ## The runs' pieces, by the tiles -/

/-- The tiles' rectangles at a point with two columns of tiles, in the order they are done; -/
theorem inb2 (q : ℕ) : ∀ a, (![128 * (q / 2 % 12), 128 * (q % 2)] : Fin 2 → ℕ) a + S128x128.size a ≤ S1536x256.size a :=
  Fin.forall_fin_two.mpr ⟨by show 128 * (q / 2 % 12) + 128 ≤ 1536; omega, by show 128 * (q % 2) + 128 ≤ 256; omega⟩
abbrev rect2 (q : ℕ) : Rect S1536x256 := Rect.unit ![128 * (q / 2 % 12), 128 * (q % 2)] S128x128.size (inb2 q)
/-- and at the last point, with one. -/
theorem inb1 (q : ℕ) : ∀ a, (![128 * (q % 12), 0] : Fin 2 → ℕ) a + S128x128.size a ≤ S1536x256.size a :=
  Fin.forall_fin_two.mpr ⟨by show 128 * (q % 12) + 128 ≤ 1536; omega, by show 0 + 128 ≤ 256; omega⟩
abbrev rect1 (q : ℕ) : Rect S1536x256 := Rect.unit ![128 * (q % 12), 0] S128x128.size (inb1 q)

section
variable {c : Dev nD} (arg3 : Memref sig .tc .vmem S1536x256 .bf16) (f3 : Bf (F := F) c arg3)
def ld2 (q : ℕ) : Vec F S128x128 .bf16 := View.readAt (Elt F) arg3.view (rect2 q).toLoadRect f3
def ld1 (q : ℕ) : Vec F S128x128 .bf16 := View.readAt (Elt F) arg3.view (rect1 q).toLoadRect f3
def codes2 : ℕ → List (View.Piece (Elt F) S1536x256 .fp8e5m2)
  | 0 => []
  | q + 1 => ⟨rect2 q, CODE (ld2 arg3 f3 q)⟩ :: codes2 q
def codes1 : ℕ → List (View.Piece (Elt F) S1536x256 .fp8e5m2)
  | 0 => []
  | q + 1 => ⟨rect1 q, CODE (ld1 arg3 f3 q)⟩ :: codes1 q
def dys2 : ℕ → List (View.Piece (Elt F) S1536x256 .bf16)
  | 0 => []
  | q + 1 => ⟨rect2 q, DYS (ld2 arg3 f3 q)⟩ :: dys2 q
def dys1 : ℕ → List (View.Piece (Elt F) S1536x256 .bf16)
  | 0 => []
  | q + 1 => ⟨rect1 q, DYS (ld1 arg3 f3 q)⟩ :: dys1 q
def srow2 (w : BitVec 32) (s : FVec F S3x4x45 .f32) : ℕ → FVec F S3x4x45 .f32
  | 0 => s
  | q + 1 => SEL w (q % 2) (q / 2) (SCB (ld2 arg3 f3 q)) (srow2 w s q)
def srow1 (w : BitVec 32) (s : FVec F S3x4x45 .f32) : ℕ → FVec F S3x4x45 .f32
  | 0 => s
  | q + 1 => SEL w 0 q (SCB (ld1 arg3 f3 q)) (srow1 w s q)
def amax2 (a : FVec F S1x1 .f32) : ℕ → FVec F S1x1 .f32
  | 0 => a
  | q + 1 => maximumf (amax2 a q) (AMAX (ld2 arg3 f3 q))
def amax1 (a : FVec F S1x1 .f32) : ℕ → FVec F S1x1 .f32
  | 0 => a
  | q + 1 => maximumf (amax1 a q) (AMAX (ld1 arg3 f3 q))
end

/-! ## The two products -/

/-- The weight gradient's block of columns; `1` in a name is the last point's, whose block is half as wide. -/
def MGP2 (x : Vec F S2880x1536 .fp8e4m3) (d : Vec F S1536x256 .bf16) (g : Vec F S2880x256 .f32) (s : Elt F .f32) : FVec F S2880x256 .f32 :=
  k0_pay244 (k0_pay242 x d) (k0_pay243 g) s
def MGP1 (x : Vec F S2880x1536 .fp8e4m3) (d : Vec F S1536x128 .bf16) (g : Vec F S2880x128 .f32) (s : Elt F .f32) : FVec F S2880x128 .f32 :=
  k0_pay368 x d g s
/-- The accumulator's columns of 256 tokens after the block. -/
def ACCP2 (w : Vec F S2880x256 .fp8e4m3) (a : Vec F S2880x256 .f32) (d : Vec F S256x256 .bf16) : FVec F S2880x256 .f32 := k0_pay246 w a d
def ACCP1 (w : Vec F S2880x128 .fp8e4m3) (a : Vec F S2880x256 .f32) (d : Vec F S256x128 .bf16) : FVec F S2880x256 .f32 := k0_pay370 (k0_pay369 w) a d
/-- One sequence of the input gradient. -/
def DXP (a : Vec F S2880x384 .f32) (s : Elt F .f32) : FVec F S1x2880x384 .bf16 := k0_pay376 a s

theorem inbAcc (j : ℕ) : ∀ a, (![0, 256 * (j % 6)] : Fin 2 → ℕ) a + S2880x256.size a ≤ S2880x1536.size a :=
  Fin.forall_fin_two.mpr ⟨by show 0 + 2880 ≤ 2880; omega, by show 256 * (j % 6) + 256 ≤ 1536; omega⟩
abbrev rectAcc (j : ℕ) : Rect S2880x1536 := Rect.unit ![0, 256 * (j % 6)] S2880x256.size (inbAcc j)
theorem inbSlab2 (j : ℕ) : ∀ a, (![256 * (j % 6), 0] : Fin 2 → ℕ) a + S256x256.size a ≤ S1536x256.size a :=
  Fin.forall_fin_two.mpr ⟨by show 256 * (j % 6) + 256 ≤ 1536; omega, by show 0 + 256 ≤ 256; omega⟩
abbrev rectSlab2 (j : ℕ) : Rect S1536x256 := Rect.unit ![256 * (j % 6), 0] S256x256.size (inbSlab2 j)
theorem inbSlab1 (j : ℕ) : ∀ a, (![256 * (j % 6), 0] : Fin 2 → ℕ) a + S256x128.size a ≤ S1536x256.size a :=
  Fin.forall_fin_two.mpr ⟨by show 256 * (j % 6) + 256 ≤ 1536; omega, by show 0 + 128 ≤ 256; omega⟩
abbrev rectSlab1 (j : ℕ) : Rect S1536x256 := Rect.unit ![256 * (j % 6), 0] S256x128.size (inbSlab1 j)
theorem inbSeq (b : ℕ) : ∀ a, (![0, 384 * (b % 4)] : Fin 2 → ℕ) a + S2880x384.size a ≤ S2880x1536.size a :=
  Fin.forall_fin_two.mpr ⟨by show 0 + 2880 ≤ 2880; omega, by show 384 * (b % 4) + 384 ≤ 1536; omega⟩
abbrev rectSeq (b : ℕ) : Rect S2880x1536 := Rect.unit ![0, 384 * (b % 4)] S2880x384.size (inbSeq b)
theorem inbPlane (b : ℕ) : ∀ a, (![b % 4, 0, 0] : Fin 3 → ℕ) a + S1x2880x384.size a ≤ S4x2880x384.size a := by
  intro a; fin_cases a
  · show b % 4 + 1 ≤ 4; omega
  · show 0 + 2880 ≤ 2880; omega
  · show 0 + 384 ≤ 384; omega
abbrev rectPlane (b : ℕ) : Rect S4x2880x384 := Rect.unit ![b % 4, 0, 0] S1x2880x384.size (inbPlane b)
/-- One plane of an array of four, as a matrix. -/
abbrev plane {sp : Space} {e : EltTy} (M : Memref sig .tc sp S4x2880x384 e) (b : ℕ) : Memref sig .tc sp S2880x384 e :=
  (M.slice (rectPlane b) (fun _ => rfl)).squeeze S2880x384 squeezes_S1x2880x384_S2880x384

section
variable {c : Dev nD} (arg1 : Memref sig .tc .smem S1 .f32) (arg3 : Memref sig .tc .vmem S1536x256 .bf16) (arg5 : Memref sig .tc .vmem S2880x256 .fp8e4m3)
  (f1 : Bf (F := F) c arg1) (f3 : Bf (F := F) c arg3) (f5 : Bf (F := F) c arg5) (fa : Bf (F := F) c accS) (fh : Bf (F := F) c xH) (s : Elt F .f32)

/-- The scalar in a one-element window. -/
def sca : Elt F .f32 := View.readAt (Elt F) arg1.view (Rect.unit ![0] S1.size inb_S1_S1_0).toLoadRect f1 (Shape.Idx.first (by decide))
def wld2 : Vec F S2880x256 .fp8e4m3 := View.readAt (Elt F) arg5.view (Rect.unit ![0, 0] S2880x256.size inb_S2880x256_S2880x256_0_0).toLoadRect f5
def wld1 : Vec F S2880x128 .fp8e4m3 := View.readAt (Elt F) arg5.view (Rect.unit (s := S2880x256) ![0, 0] S2880x128.size inb_S2880x256_S2880x128_0_0).toLoadRect f5
def slab2 (j : ℕ) : Vec F S256x256 .bf16 := dysS.view.readCov (dys2 arg3 f3 24) (rectSlab2 j).toLoadRect
def slab1 (j : ℕ) : Vec F S256x128 .bf16 := dysS.view.readCov (dys1 arg3 f3 12) (rectSlab1 j).toLoadRect
def dall2 : Vec F S1536x256 .bf16 := dysS.view.readCov (dys2 arg3 f3 24) (Rect.unit ![0, 0] S1536x256.size inb_S1536x256_S1536x256_0_0).toLoadRect
def dall1 : Vec F S1536x128 .bf16 := dysS.view.readCov (dys1 arg3 f3 12) (Rect.unit (s := S1536x256) ![0, 0] S1536x128.size inb_S1536x256_S1536x128_0_0).toLoadRect

/-- The accumulator's pieces at the first point, after the zeros; -/
def accA : ℕ → List (View.Piece (Elt F) S2880x1536 .f32)
  | 0 => [⟨Rect.unit ![0, 0] S2880x1536.size inb_S2880x1536_S2880x1536_0_0, k0_pay1⟩]
  | j + 1 => ⟨rectAcc j, ACCP2 (wld2 arg5 f5) (accS.view.readCov (accA j) (rectAcc j).toLoadRect) (slab2 arg3 f3 j)⟩ :: accA j
/-- at a point in the middle; -/
def accB : ℕ → List (View.Piece (Elt F) S2880x1536 .f32)
  | 0 => []
  | j + 1 => ⟨rectAcc j, ACCP2 (wld2 arg5 f5) (View.readAt (Elt F) accS.view (rectAcc j).toLoadRect fa) (slab2 arg3 f3 j)⟩ :: accB j
/-- at the last. -/
def accC : ℕ → List (View.Piece (Elt F) S2880x1536 .f32)
  | 0 => []
  | j + 1 => ⟨rectAcc j, ACCP1 (wld1 arg5 f5) (View.readAt (Elt F) accS.view (rectAcc j).toLoadRect fa) (slab1 arg3 f3 j)⟩ :: accC j

/-- The activations' pieces: one per sequence. -/
def xsP : ℕ → List (View.Piece (Elt F) S2880x1536 .fp8e4m3)
  | 0 => []
  | b + 1 => ⟨rectSeq b, ReadAs.same.apply (View.read (Elt F) (plane xH b).view fh)⟩ :: xsP b

/-- The staging buffer's pieces. -/
def stP (L : List (View.Piece (Elt F) S2880x1536 .f32)) : ℕ → List (View.Piece (Elt F) S4x2880x384 .bf16)
  | 0 => []
  | b + 1 => ⟨rectPlane b, DXP (accS.view.readCov L (rectSeq b).toLoadRect) s⟩ :: stP L b
/-- The input gradient's array after the copies out. -/
def dxW (L : List (View.Piece (Elt F) S2880x1536 .f32)) (fs : Bf (F := F) c stS) (fo : Bf (F := F) c dxH) : ℕ → Bf (F := F) c dxH
  | 0 => fo
  | b + 1 => View.write (Elt F) (plane dxH b).view (dxW L fs fo b)
      (ReadAs.same.apply (View.read (Elt F) (plane stS b).view (stS.view.writes (Elt F) fs (stP s L (b + 1))))) Finset.univ
end

section
variable (c : Dev nD) (i : grid0.Coords)
    (arg1 : Memref sig .tc .smem S1 .f32) (harg1 : arg1.IsWhole) (arg2 : Memref sig .tc .smem S1 .f32) (harg2 : arg2.IsWhole) (arg3 : Memref sig .tc .vmem S1536x256 .bf16) (harg3 : arg3.IsWhole) (arg5 : Memref sig .tc .vmem S2880x256 .fp8e4m3) (harg5 : arg5.IsWhole) (arg6 : Memref sig .tc .vmem S2880x256 .f32) (harg6 : arg6.IsWhole) (arg7 : Memref sig .tc .vmem S2880x256 .f32) (harg7 : arg7.IsWhole) (arg8 : Memref sig .tc .vmem S1536x256 .fp8e5m2) (harg8 : arg8.IsWhole) (arg9 : Memref sig .tc .vmem S3x4x45 .f32) (harg9 : arg9.IsWhole) (arg10 : Memref sig .tc .vmem S1x1 .f32) (harg10 : arg10.IsWhole)
    (f1 : Bf (F := F) c arg1) (f2 : Bf (F := F) c arg2) (f3 : Bf (F := F) c arg3) (f5 : Bf (F := F) c arg5) (f6 : Bf (F := F) c arg6)

section A
variable (h1 : k0_cond1 i = 1#1) (h2 : k0_cond2 i = 1#1) (h3 : k0_cond3 i ≠ 1#1) (fh : Bf (F := F) c xH) (fo : Bf (F := F) c dxH)
theorem mgo_A : (runA c i h1 h2 h3 arg1 harg1 arg2 harg2 arg3 harg3 arg5 harg5 arg6 harg6 arg7 harg7 arg8 harg8 arg9 harg9 arg10 harg10 f1 f2 f3 f5 f6 fh fo).1.1 = [⟨Rect.unit ![0, 0] S2880x256.size inb_S2880x256_S2880x256_0_0,
    MGP2 (xS.view.readCov (xsP (c := c) fh 4) (Rect.unit ![0, 0] S2880x1536.size inb_S2880x1536_S2880x1536_0_0).toLoadRect) (dall2 arg3 f3)
      (View.readAt (Elt F) arg6.view (Rect.unit ![0, 0] S2880x256.size inb_S2880x256_S2880x256_0_0).toLoadRect f6) (sca arg1 f1)⟩] := by sl_kernel_rfl
theorem codes_A : (runA c i h1 h2 h3 arg1 harg1 arg2 harg2 arg3 harg3 arg5 harg5 arg6 harg6 arg7 harg7 arg8 harg8 arg9 harg9 arg10 harg10 f1 f2 f3 f5 f6 fh fo).1.2.1 = codes2 arg3 f3 24 := by sl_kernel_rfl
theorem scales_A : (runA c i h1 h2 h3 arg1 harg1 arg2 harg2 arg3 harg3 arg5 harg5 arg6 harg6 arg7 harg7 arg8 harg8 arg9 harg9 arg10 harg10 f1 f2 f3 f5 f6 fh fo).1.2.2.1 = ⟨Rect.unit ![0, 0, 0] S3x4x45.size inb_S3x4x45_S3x4x45_0_0_0,
      srow2 arg3 f3 (BitVec.ofNat 32 (i 0)) (k0_pay6 (arg9.view.readCov [⟨Rect.unit ![0, 0, 0] S3x4x45.size inb_S3x4x45_S3x4x45_0_0_0, k0_pay4⟩] (Rect.unit ![0, 0, 0] S3x4x45.size inb_S3x4x45_S3x4x45_0_0_0).toLoadRect)) 24⟩
        :: [⟨Rect.unit ![0, 0, 0] S3x4x45.size inb_S3x4x45_S3x4x45_0_0_0, k0_pay4⟩] := by sl_kernel_rfl
theorem amax_A : (runA c i h1 h2 h3 arg1 harg1 arg2 harg2 arg3 harg3 arg5 harg5 arg6 harg6 arg7 harg7 arg8 harg8 arg9 harg9 arg10 harg10 f1 f2 f3 f5 f6 fh fo).1.2.2.2.1 = ⟨Rect.unit ![0, 0] S1x1.size inb_S1x1_S1x1_0_0,
      amax2 arg3 f3 (k0_pay7 (arg10.view.readCov [⟨Rect.unit ![0, 0] S1x1.size inb_S1x1_S1x1_0_0, k0_pay5⟩] (Rect.unit ![0, 0] S1x1.size inb_S1x1_S1x1_0_0).toLoadRect)) 24⟩
        :: [⟨Rect.unit ![0, 0] S1x1.size inb_S1x1_S1x1_0_0, k0_pay5⟩] := by sl_kernel_rfl
theorem xs_A : (runA c i h1 h2 h3 arg1 harg1 arg2 harg2 arg3 harg3 arg5 harg5 arg6 harg6 arg7 harg7 arg8 harg8 arg9 harg9 arg10 harg10 f1 f2 f3 f5 f6 fh fo).1.2.2.2.2.1 = xsP (c := c) fh 4 := by sl_kernel_rfl
theorem acc_A : (runA c i h1 h2 h3 arg1 harg1 arg2 harg2 arg3 harg3 arg5 harg5 arg6 harg6 arg7 harg7 arg8 harg8 arg9 harg9 arg10 harg10 f1 f2 f3 f5 f6 fh fo).1.2.2.2.2.2 = accA arg3 arg5 f3 f5 6 := by sl_kernel_rfl
end A

section B
variable (h1 : k0_cond1 i ≠ 1#1) (h2 : k0_cond2 i = 1#1) (h3 : k0_cond3 i ≠ 1#1)
  (f9 : Bf (F := F) c arg9) (f10 : Bf (F := F) c arg10) (fx : Bf (F := F) c xS) (fa : Bf (F := F) c accS) (fh : Bf (F := F) c xH) (fo : Bf (F := F) c dxH)
theorem mgo_B : (runB c i h1 h2 h3 arg1 harg1 arg2 harg2 arg3 harg3 arg5 harg5 arg6 harg6 arg7 harg7 arg8 harg8 arg9 harg9 arg10 harg10 f1 f2 f3 f5 f6 f9 f10 fx fa fh fo).1.1 = [⟨Rect.unit ![0, 0] S2880x256.size inb_S2880x256_S2880x256_0_0,
    MGP2 (View.readAt (Elt F) xS.view (Rect.unit ![0, 0] S2880x1536.size inb_S2880x1536_S2880x1536_0_0).toLoadRect fx) (dall2 arg3 f3)
      (View.readAt (Elt F) arg6.view (Rect.unit ![0, 0] S2880x256.size inb_S2880x256_S2880x256_0_0).toLoadRect f6) (sca arg1 f1)⟩] := by sl_kernel_rfl
theorem codes_B : (runB c i h1 h2 h3 arg1 harg1 arg2 harg2 arg3 harg3 arg5 harg5 arg6 harg6 arg7 harg7 arg8 harg8 arg9 harg9 arg10 harg10 f1 f2 f3 f5 f6 f9 f10 fx fa fh fo).1.2.1 = codes2 arg3 f3 24 := by sl_kernel_rfl
theorem scales_B : (runB c i h1 h2 h3 arg1 harg1 arg2 harg2 arg3 harg3 arg5 harg5 arg6 harg6 arg7 harg7 arg8 harg8 arg9 harg9 arg10 harg10 f1 f2 f3 f5 f6 f9 f10 fx fa fh fo).1.2.2.1 = [⟨Rect.unit ![0, 0, 0] S3x4x45.size inb_S3x4x45_S3x4x45_0_0_0,
      srow2 arg3 f3 (BitVec.ofNat 32 (i 0)) (k0_pay6 (View.readAt (Elt F) arg9.view (Rect.unit ![0, 0, 0] S3x4x45.size inb_S3x4x45_S3x4x45_0_0_0).toLoadRect f9)) 24⟩] := by sl_kernel_rfl
theorem amax_B : (runB c i h1 h2 h3 arg1 harg1 arg2 harg2 arg3 harg3 arg5 harg5 arg6 harg6 arg7 harg7 arg8 harg8 arg9 harg9 arg10 harg10 f1 f2 f3 f5 f6 f9 f10 fx fa fh fo).1.2.2.2.1 = [⟨Rect.unit ![0, 0] S1x1.size inb_S1x1_S1x1_0_0,
      amax2 arg3 f3 (k0_pay7 (View.readAt (Elt F) arg10.view (Rect.unit ![0, 0] S1x1.size inb_S1x1_S1x1_0_0).toLoadRect f10)) 24⟩] := by sl_kernel_rfl
theorem acc_B : (runB c i h1 h2 h3 arg1 harg1 arg2 harg2 arg3 harg3 arg5 harg5 arg6 harg6 arg7 harg7 arg8 harg8 arg9 harg9 arg10 harg10 f1 f2 f3 f5 f6 f9 f10 fx fa fh fo).1.2.2.2.2 = accB arg3 arg5 f3 f5 fa 6 := by sl_kernel_rfl
end B

section C
variable (h1 : k0_cond1 i ≠ 1#1) (h2 : k0_cond2 i ≠ 1#1) (h3 : k0_cond3 i = 1#1)
  (f9 : Bf (F := F) c arg9) (f10 : Bf (F := F) c arg10) (fx : Bf (F := F) c xS) (fa : Bf (F := F) c accS) (fh : Bf (F := F) c xH) (fo : Bf (F := F) c dxH)
theorem mgo_C : (runC c i h1 h2 h3 arg1 harg1 arg2 harg2 arg3 harg3 arg5 harg5 arg6 harg6 arg7 harg7 arg8 harg8 arg9 harg9 arg10 harg10 f1 f2 f3 f5 f6 f9 f10 fx fa fh fo).1.1 = [⟨Rect.unit (s := S2880x256) ![0, 0] S2880x128.size inb_S2880x256_S2880x128_0_0,
    MGP1 (View.readAt (Elt F) xS.view (Rect.unit ![0, 0] S2880x1536.size inb_S2880x1536_S2880x1536_0_0).toLoadRect fx) (dall1 arg3 f3)
      (View.readAt (Elt F) arg6.view (Rect.unit (s := S2880x256) ![0, 0] S2880x128.size inb_S2880x256_S2880x128_0_0).toLoadRect f6) (sca arg1 f1)⟩] := by sl_kernel_rfl
theorem codes_C : (runC c i h1 h2 h3 arg1 harg1 arg2 harg2 arg3 harg3 arg5 harg5 arg6 harg6 arg7 harg7 arg8 harg8 arg9 harg9 arg10 harg10 f1 f2 f3 f5 f6 f9 f10 fx fa fh fo).1.2.1 = codes1 arg3 f3 12 := by sl_kernel_rfl
theorem scales_C : (runC c i h1 h2 h3 arg1 harg1 arg2 harg2 arg3 harg3 arg5 harg5 arg6 harg6 arg7 harg7 arg8 harg8 arg9 harg9 arg10 harg10 f1 f2 f3 f5 f6 f9 f10 fx fa fh fo).1.2.2.1 = [⟨Rect.unit ![0, 0, 0] S3x4x45.size inb_S3x4x45_S3x4x45_0_0_0,
      srow1 arg3 f3 (BitVec.ofNat 32 (i 0)) (k0_pay6 (View.readAt (Elt F) arg9.view (Rect.unit ![0, 0, 0] S3x4x45.size inb_S3x4x45_S3x4x45_0_0_0).toLoadRect f9)) 12⟩] := by sl_kernel_rfl
theorem amax_C : (runC c i h1 h2 h3 arg1 harg1 arg2 harg2 arg3 harg3 arg5 harg5 arg6 harg6 arg7 harg7 arg8 harg8 arg9 harg9 arg10 harg10 f1 f2 f3 f5 f6 f9 f10 fx fa fh fo).1.2.2.2.1 = [⟨Rect.unit ![0, 0] S1x1.size inb_S1x1_S1x1_0_0,
      amax1 arg3 f3 (k0_pay7 (View.readAt (Elt F) arg10.view (Rect.unit ![0, 0] S1x1.size inb_S1x1_S1x1_0_0).toLoadRect f10)) 12⟩] := by sl_kernel_rfl
theorem acc_C : (runC c i h1 h2 h3 arg1 harg1 arg2 harg2 arg3 harg3 arg5 harg5 arg6 harg6 arg7 harg7 arg8 harg8 arg9 harg9 arg10 harg10 f1 f2 f3 f5 f6 f9 f10 fx fa fh fo).1.2.2.2.2.1 = accC arg3 arg5 f3 f5 fa 6 := by sl_kernel_rfl
theorem dx_C (fs : Bf (F := F) c stS) : (runC c i h1 h2 h3 arg1 harg1 arg2 harg2 arg3 harg3 arg5 harg5 arg6 harg6 arg7 harg7 arg8 harg8 arg9 harg9 arg10 harg10 f1 f2 f3 f5 f6 f9 f10 fx fa fh fo).1.2.2.2.2.2 fs = dxW (sca arg2 f2) (accC arg3 arg5 f3 f5 fa 6) fs fo 4 := by sl_kernel_rfl
end C
end

end Cert.KernelIdeal.Hand
-- ==== Proof.Spec.lean ====
/-
  The mathematics both programs come down to, over arrays given as functions of row and column: the largest magnitude
  of a 128 by 128 block, the codes a scale gives, and what the results are made of.
-/
module

public import Idealize.ShloMosaic.Lib.Tactic
public import Idealize.ShloMosaic.Lib.Pointwise

@[expose] public section

noncomputable section

namespace Cert.Spec

open Idealize.ShloMosaic

/-- The magnitude. -/
def mag (x : EReal) : EReal := max x (-x)

/-- The largest magnitude of block `(k, n)` of `D`. -/
def tmax (D : ℕ → ℕ → EReal) (k n : ℕ) : EReal :=
  Finset.univ.sup fun y : Fin 128 × Fin 128 => mag (D (128 * k + y.1) (128 * n + y.2))

/-- The clipped quotient: `x` times the inverse scale, kept within the code's range. -/
def clipc (x : EReal) : EReal :=
  min (max x (Ideal.ofBits .f32 0xC7600000#32)) (Ideal.ofBits .f32 0x47600000#32)

theorem mag_nonneg (x : EReal) : 0 ≤ mag x := by
  unfold mag
  rcases le_total 0 x with h | h
  · exact le_max_of_le_left h
  · exact le_max_of_le_right (by simpa using EReal.neg_le_neg_iff.mpr h)

theorem tmax_nonneg (D : ℕ → ℕ → EReal) (k n : ℕ) : 0 ≤ tmax D k n :=
  (mag_nonneg _).trans (Finset.le_sup (f := fun y : Fin 128 × Fin 128 => mag (D (128 * k + y.1) (128 * n + y.2))) (Finset.mem_univ (0, 0)))

/-- A fold of `max` from the bottom over the indices with a property is the supremum over a set that lists them. -/
theorem fold_max_eq_sup {α β : Type*} [Fintype α] (P : α → Prop) [DecidablePred P] (f : α → EReal) (s : Finset β) (g : β → EReal) (init : EReal) (hi : init = ⊥)
    (h1 : ∀ i, P i → ∃ b ∈ s, f i = g b) (h2 : ∀ b ∈ s, ∃ i, P i ∧ f i = g b) :
    (Finset.univ.filter P).fold max init f = s.sup g := by
  subst hi
  show Finset.sup _ f = _
  apply le_antisymm
  · refine Finset.sup_le fun i hi => ?_
    obtain ⟨b, hb, e⟩ := h1 i (Finset.mem_filter.mp hi).2
    rw [e]; exact Finset.le_sup hb
  · refine Finset.sup_le fun b hb => ?_
    obtain ⟨i, hi, e⟩ := h2 b hb
    rw [← e]; exact Finset.le_sup (f := f) (Finset.mem_filter.mpr ⟨Finset.mem_univ _, hi⟩)

/-- The code at `(p, o)`, the inverse scale of a block a function `ki` of its largest magnitude. -/
def codeN (ki : EReal → EReal) (D : ℕ → ℕ → EReal) (p o : ℕ) : EReal := clipc (D p o * ki (tmax D (p / 128) (o / 128)))
/-- What the code stands for: times the block's scale. -/
def dysN (ks ki : EReal → EReal) (D : ℕ → ℕ → EReal) (p o : ℕ) : EReal := codeN ki D p o * ks (tmax D (p / 128) (o / 128))
/-- The first `n` terms of the input gradient's sum. -/
def accN (ks ki : EReal → EReal) (D W : ℕ → ℕ → EReal) (n d p : ℕ) : EReal := ∑ o ∈ Finset.range n, W d o * dysN ks ki D p o
/-- The weight gradient, added to what was there. -/
def mgoN (ks ki : EReal → EReal) (D X M : ℕ → ℕ → EReal) (s : EReal) (d o : ℕ) : EReal :=
  M d o + (∑ p ∈ Finset.range 1536, X d p * dysN ks ki D p o) * s
/-- The largest magnitude of the first `n` columns of blocks, at least zero. -/
def amaxN (D : ℕ → ℕ → EReal) (n : ℕ) : EReal := (Finset.range 12 ×ˢ Finset.range n).sup (fun q => tmax D q.1 q.2) ⊔ 0
/-- The scale of block row `k`, block column `n`. -/
def scaleN (ks : EReal → EReal) (D : ℕ → ℕ → EReal) (k n : ℕ) : EReal := ks (tmax D k n)

theorem accN_add (ks ki : EReal → EReal) (D W : ℕ → ℕ → EReal) (n w d p : ℕ) :
    accN ks ki D W (n + w) d p = accN ks ki D W n d p + ∑ k : Fin w, W d (n + k) * dysN ks ki D p (n + k) := by
  unfold accN
  rw [Finset.sum_range_add, Fin.sum_univ_eq_sum_range (fun k => W d (n + k) * dysN ks ki D p (n + k)) w]

/-- The exponent of a block whose largest magnitude is `a`, by the logarithm: one more than the floor of the binary
    logarithm of `a / 57344` (its f32 value), and 0 for a block of zeros. -/
def rexp (a : EReal) : EReal :=
  if a = 0 then 0 else
    Ideal.liftRound Int.floor (Ideal.div (Ideal.log (a * Ideal.ofBits .f32 0x37924925#32)) (Ideal.log (Ideal.ofBits .f32 0x40000000#32))) + Ideal.ofBits .f32 0x3F800000#32
/-- The scale by that exponent. -/
def rsc (a : EReal) : EReal := Ideal.pow (Ideal.ofBits .f32 0x40000000#32) (rexp a)
/-- Its inverse. -/
def rin (a : EReal) : EReal := Ideal.pow (Ideal.ofBits .f32 0x40000000#32) (-rexp a)

end Cert.Spec
-- ==== Proof.TileVal.lean ====
/-
  The tile functions of Tiles.lean over the extended reals, and from them what a run's pieces hold: the codes, the
  codes times their scales, the two products.
-/
module

public import proofs.«01_k».proof.Proof.Tiles
public import proofs.«01_k».proof.Proof.Spec

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.Pointwise

/-- How many of the powers of two from `2 ^ -126` on lie at or below `x`. -/
def kfield (x : EReal) : BitVec 32 :=
  Finset.fold IntOp.addi (0#32) (fun k : Fin 255 =>
    BitVec.setWidth 32 (BitVec.ofBool (decide (Ideal.ofBits FTy.f32 (IntOp.shli ArithUnit.vector (IntOp.addi (BitVec.ofNat 32 ↑k) 1#32) 23#32) ≤ x)))) Finset.univ
/-- The exponent of a block whose largest magnitude is `a`; -/
def kexp (a : EReal) : BitVec 32 :=
  Scalar.select (IntOp.ori (IntOp.cmpi CmpIPredicate.eq (kfield (a * Ideal.ofBits FTy.f32 932333861#32)) 0#32)
      (IntOp.cmpi CmpIPredicate.eq (kfield (a * Ideal.ofBits FTy.f32 932333861#32)) 255#32))
    (0#32) (IntOp.subi (kfield (a * Ideal.ofBits FTy.f32 932333861#32)) 126#32)
/-- its scale; -/
def ksc (a : EReal) : EReal := Ideal.ofBits FTy.f32 (IntOp.shli ArithUnit.vector (IntOp.addi (kexp a) 127#32) 23#32)
/-- and its inverse. -/
def kin (a : EReal) : EReal := Ideal.ofBits FTy.f32 (IntOp.shli ArithUnit.vector (IntOp.subi (127#32) (kexp a)) 23#32)

/-! ## One tile -/

/-- `v` is block `(k, n)` of `D`. -/
def IsTile (v : Vec Ideal S128x128 .bf16) (D : ℕ → ℕ → EReal) (k n : ℕ) : Prop :=
  ∀ y : S128x128.Idx, v y = D (128 * k + y 0) (128 * n + y 1)

section
variable {v : Vec Ideal S128x128 .bf16} {D : ℕ → ℕ → EReal} {k n : ℕ} (hv : IsTile v D k n)
include hv

theorem pay9_val : k0_pay9 v (ix2 0 0) = tmax D k n := by
  unfold k0_pay9 k0_pay8
  pointwise
  unfold tmax
  rw [show Ideal.ofBits FTy.f32 4286578688#32 = ⊥ by simp [Ideal.ofBits, Ideal.ieee]]
  show Finset.sup _ _ = _
  refine Finset.sup_congr rfl fun x _ => ?_
  show max (v (ix2 x.1 x.2)) (-(v (ix2 x.1 x.2))) = _
  rw [hv]; rfl

theorem AMAX_val (y) : AMAX v y = tmax D k n := by
  rw [show y = ix2 0 0 from funext fun a => by fin_cases a <;> exact Subsingleton.elim (α := Fin 1) _ _]; exact pay9_val hv

theorem pay10_val : k0_pay10 v (ix2 0 0) = kexp (tmax D k n) := by
  unfold k0_pay10
  pointwise
  rw [pay9_val hv]; rfl

theorem SCB_val (y) : SCB v y = ksc (tmax D k n) := by
  rw [show y = ix2 0 0 from funext fun a => by fin_cases a <;> exact Subsingleton.elim (α := Fin 1) _ _]
  unfold SCB k0_pay11 k0_pay12
  pointwise
  rw [pay10_val hv]; rfl

theorem CODE_val (y : S128x128.Idx) : CODE v y = codeN kin D (128 * k + y 0) (128 * n + y 1) := by
  have h0 : (128 * k + (y 0 : ℕ)) / 128 = k := by have : (y 0 : ℕ) < 128 := (y 0).isLt; omega
  have h1 : (128 * n + (y 1 : ℕ)) / 128 = n := by have : (y 1 : ℕ) < 128 := (y 1).isLt; omega
  unfold CODE k0_pay8 k0_pay13 codeN
  pointwise
  rw [pay10_val hv, hv y, h0, h1, min_comm, max_comm]; rfl

theorem DYS_val (y : S128x128.Idx) : DYS v y = dysN ksc kin D (128 * k + y 0) (128 * n + y 1) := by
  have h0 : (128 * k + (y 0 : ℕ)) / 128 = k := by have : (y 0 : ℕ) < 128 := (y 0).isLt; omega
  have h1 : (128 * n + (y 1 : ℕ)) / 128 = n := by have : (y 1 : ℕ) < 128 := (y 1).isLt; omega
  have e1 := CODE_val hv y
  have e2 := SCB_val hv (ix2 0 0)
  unfold CODE at e1; unfold SCB at e2
  unfold DYS k0_pay14
  pointwise
  rw [e1, e2]; unfold dysN; rw [h0, h1]
end

theorem SEL_val (t j k : ℕ) (hj : j < 2) (ht : t < 23) (hk : k < 12) (sc : FVec Ideal S1x1 .f32) (s : FVec Ideal S3x4x45 .f32) (y : S3x4x45.Idx) :
    SEL (BitVec.ofNat 32 t) j k sc s y = if (y 2 : ℕ) = 2 * t + j ∧ 3 * (y 1 : ℕ) + (y 0 : ℕ) = k then sc (ix2 0 0) else s y := by
  unfold SEL
  pointwise
  have h0 : (y 0 : ℕ) < 3 := (y 0).isLt
  have h1 : (y 1 : ℕ) < 4 := (y 1).isLt
  have h2 : (y 2 : ℕ) < 45 := (y 2).isLt
  generalize (y 0 : ℕ) = a0 at *
  generalize (y 1 : ℕ) = a1 at *
  generalize (y 2 : ℕ) = a2 at *
  have w0 : Scalar.addi (Scalar.muli (BitVec.ofNat 32 t) 2#32) (BitVec.ofNat 32 j) = BitVec.ofNat 32 (2 * t + j) := by
    show BitVec.ofNat 32 t * 2#32 + BitVec.ofNat 32 j = _
    apply BitVec.eq_of_toNat_eq
    simp [BitVec.toNat_add, BitVec.toNat_mul]; omega
  rw [w0]
  word_cmp
  exact if_congr (by omega) rfl rfl

theorem MGP2_val (x d g s) (y) : MGP2 (F := Ideal) x d g s y = g y + (∑ p : Fin 1536, x (ix2 (y 0) p) * d (ix2 p (y 1))) * s := by
  unfold MGP2 k0_pay242 k0_pay243 k0_pay244
  pointwise
theorem MGP1_val (x d g s) (y) : MGP1 (F := Ideal) x d g s y = g y + (∑ p : Fin 1536, x (ix2 (y 0) p) * d (ix2 p (y 1))) * s := by
  unfold MGP1 k0_pay368
  pointwise
theorem ACCP2_val (x d g) (y) : ACCP2 (F := Ideal) x d g y = d y + ∑ k : Fin 256, x (ix2 (y 0) k) * g (ix2 (y 1) k) := by
  unfold ACCP2 k0_pay246 k0_pay245
  pointwise
theorem ACCP1_val (x d g) (y) : ACCP1 (F := Ideal) x d g y = d y + ∑ k : Fin 128, x (ix2 (y 0) k) * g (ix2 (y 1) k) := by
  unfold ACCP1 k0_pay370 k0_pay369
  pointwise
theorem DXP_val (x d) (y) : DXP (F := Ideal) x d y = x (ix2 (y 1) (y 2)) * d := by
  unfold DXP k0_pay376
  pointwise

end Cert.KernelIdeal.Hand
-- ==== Proof.BlockVal.lean ====
/-
  What a run of the body leaves in the blocks and in the accumulator, over the extended reals: from what its input
  blocks hold, the codes, the scales, the largest magnitude and the two products, by row and column.
-/
module

public import proofs.«01_k».proof.Proof.TileVal
public import Idealize.ShloMosaic.Lib.Pipeline.Value

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.Pointwise

/-! ## A list of pieces, one per number -/

section
variable {s : Shape} {e : EltTy}
def pcs (f : ℕ → View.Piece (Elt Ideal) s e) : ℕ → List (View.Piece (Elt Ideal) s e)
  | 0 => []
  | q + 1 => f q :: pcs f q
theorem mem_pcs (f : ℕ → View.Piece (Elt Ideal) s e) (n : ℕ) (p) : p ∈ pcs f n ↔ ∃ q < n, p = f q := by
  induction n with
  | zero => simp [pcs]
  | succ n ih =>
    rw [pcs, List.mem_cons, ih]
    constructor
    · rintro (rfl | ⟨q, h, rfl⟩)
      · exact ⟨n, by omega, rfl⟩
      · exact ⟨q, by omega, rfl⟩
    · rintro ⟨q, h, rfl⟩
      by_cases hq : q = n
      · subst hq; exact .inl rfl
      · exact .inr ⟨q, by omega, rfl⟩
/-- Where every piece agrees with `G`, the pieces read back are `G` wherever one of them lies. -/
theorem canon_pcs (f : ℕ → View.Piece (Elt Ideal) s e) (n : ℕ) (G : s.Idx → Elt Ideal e)
    (h : ∀ q < n, ∀ x : (f q).1.shape.Idx, (f q).2 x = G ((f q).1.emb x)) (y) (hy : ∃ q < n, y ∈ (f q).1.set) :
    View.canon (pcs f n) y = G y := by
  refine View.canon_apply_of_pieces G _ (fun p hp => ?_) y ?_
  · obtain ⟨q, hq, rfl⟩ := (mem_pcs f n p).mp hp
    exact h q hq
  · obtain ⟨q, hq, hm⟩ := hy
    exact ⟨_, (mem_pcs f n _).mpr ⟨q, hq, rfl⟩, hm⟩
theorem read_pcs {κ} {sp : Space} (v : View sig κ sp s e) (g : v.ty.Contents (Elt Ideal)) (f : ℕ → View.Piece (Elt Ideal) s e) (n : ℕ) (G : s.Idx → Elt Ideal e)
    (h : ∀ q < n, ∀ x : (f q).1.shape.Idx, (f q).2 x = G ((f q).1.emb x)) (y) (hy : ∃ q < n, y ∈ (f q).1.set) :
    v.read (Elt Ideal) (v.writes (Elt Ideal) g (pcs f n)) y = G y := by
  refine View.read_writes_apply_of_pieces v g G _ (fun p hp => ?_) y ?_
  · obtain ⟨q, hq, rfl⟩ := (mem_pcs f n p).mp hp
    exact h q hq
  · obtain ⟨q, hq, hm⟩ := hy
    exact ⟨_, (mem_pcs f n _).mpr ⟨q, hq, rfl⟩, hm⟩
end

/-! ## The tiles of a block -/

section
variable {c : Dev nD} {arg3 : Memref sig .tc .vmem S1536x256 .bf16} {f3 : Bf (F := Ideal) c arg3} {D : ℕ → ℕ → EReal} {t : ℕ}

/-- The block of the gradient at point `t`: its first `w` columns. -/
def HoldsD (arg3 : Memref sig .tc .vmem S1536x256 .bf16) (f3 : Bf (F := Ideal) c arg3) (D : ℕ → ℕ → EReal) (t w : ℕ) : Prop :=
  ∀ y : S1536x256.Idx, (y 1 : ℕ) < w → arg3.view.read (Elt Ideal) f3 y = D (y 0) (256 * t + y 1)

theorem rect2_emb (q : ℕ) (hq : q < 24) (x : S128x128.Idx) :
    (((rect2 q).emb x) 0 : ℕ) = 128 * (q / 2) + x 0 ∧ (((rect2 q).emb x) 1 : ℕ) = 128 * (q % 2) + x 1 := by
  constructor
  · show 128 * (q / 2 % 12) + 1 * (x 0 : ℕ) = _; omega
  · show 128 * (q % 2) + 1 * (x 1 : ℕ) = _; omega
theorem rect1_emb (q : ℕ) (hq : q < 12) (x : S128x128.Idx) :
    (((rect1 q).emb x) 0 : ℕ) = 128 * q + x 0 ∧ (((rect1 q).emb x) 1 : ℕ) = x 1 := by
  constructor
  · show 128 * (q % 12) + 1 * (x 0 : ℕ) = _; omega
  · show 0 + 1 * (x 1 : ℕ) = _; omega

theorem ld2_tile (H : HoldsD arg3 f3 D t 256) (q : ℕ) (hq : q < 24) : IsTile (ld2 arg3 f3 q) D (q / 2) (2 * t + q % 2) := by
  intro y
  have h := H ((rect2 q).emb y) ((rect2 q).emb y 1).isLt
  obtain ⟨e0, e1⟩ := rect2_emb q hq y
  rw [e0, e1] at h
  refine Eq.trans h ?_
  congr 1
  omega
theorem ld1_tile (H : HoldsD arg3 f3 D t 128) (q : ℕ) (hq : q < 12) : IsTile (ld1 arg3 f3 q) D q (2 * t) := by
  intro y
  obtain ⟨e0, e1⟩ := rect1_emb q hq y
  have h := H ((rect1 q).emb y) (by rw [e1]; exact (y 1).isLt)
  rw [e0, e1] at h
  refine Eq.trans h ?_
  congr 1
  omega

theorem mem_rect2 (y : S1536x256.Idx) : ∃ q < 24, y ∈ (rect2 q).set := by
  have h0 : (y 0 : ℕ) < 1536 := (y 0).isLt
  have h1 : (y 1 : ℕ) < 256 := (y 1).isLt
  refine ⟨2 * ((y 0 : ℕ) / 128) + (y 1 : ℕ) / 128, by omega, Rect.mem_set_unit.mpr (Fin.forall_fin_two.mpr ⟨?_, ?_⟩)⟩
  · show 128 * ((2 * ((y 0 : ℕ) / 128) + (y 1 : ℕ) / 128) / 2 % 12) ≤ (y 0 : ℕ) ∧ (y 0 : ℕ) < 128 * ((2 * ((y 0 : ℕ) / 128) + (y 1 : ℕ) / 128) / 2 % 12) + 128
    omega
  · show 128 * ((2 * ((y 0 : ℕ) / 128) + (y 1 : ℕ) / 128) % 2) ≤ (y 1 : ℕ) ∧ (y 1 : ℕ) < 128 * ((2 * ((y 0 : ℕ) / 128) + (y 1 : ℕ) / 128) % 2) + 128
    omega
theorem mem_rect1 (y : S1536x256.Idx) (hy : (y 1 : ℕ) < 128) : ∃ q < 12, y ∈ (rect1 q).set := by
  have h0 : (y 0 : ℕ) < 1536 := (y 0).isLt
  refine ⟨(y 0 : ℕ) / 128, by omega, Rect.mem_set_unit.mpr (Fin.forall_fin_two.mpr ⟨?_, ?_⟩)⟩
  · show 128 * ((y 0 : ℕ) / 128 % 12) ≤ (y 0 : ℕ) ∧ (y 0 : ℕ) < 128 * ((y 0 : ℕ) / 128 % 12) + 128
    omega
  · show 0 ≤ (y 1 : ℕ) ∧ (y 1 : ℕ) < 0 + 128
    omega

/-! ## The codes, and what they stand for -/

def codeB (D : ℕ → ℕ → EReal) (t : ℕ) (y : S1536x256.Idx) : EReal := codeN kin D (y 0) (256 * t + y 1)
def dysB (D : ℕ → ℕ → EReal) (t : ℕ) (y : S1536x256.Idx) : EReal := dysN ksc kin D (y 0) (256 * t + y 1)

theorem codes2_eq (n : ℕ) : codes2 arg3 f3 n = pcs (fun q => ⟨rect2 q, CODE (ld2 arg3 f3 q)⟩) n := by
  induction n with | zero => rfl | succ n ih => rw [codes2, pcs, ih]
theorem codes1_eq (n : ℕ) : codes1 arg3 f3 n = pcs (fun q => ⟨rect1 q, CODE (ld1 arg3 f3 q)⟩) n := by
  induction n with | zero => rfl | succ n ih => rw [codes1, pcs, ih]
theorem dys2_eq (n : ℕ) : dys2 arg3 f3 n = pcs (fun q => ⟨rect2 q, DYS (ld2 arg3 f3 q)⟩) n := by
  induction n with | zero => rfl | succ n ih => rw [dys2, pcs, ih]
theorem dys1_eq (n : ℕ) : dys1 arg3 f3 n = pcs (fun q => ⟨rect1 q, DYS (ld1 arg3 f3 q)⟩) n := by
  induction n with | zero => rfl | succ n ih => rw [dys1, pcs, ih]

theorem read_codes2 (H : HoldsD arg3 f3 D t 256) {κ} {sp : Space} (v : View sig κ sp S1536x256 .fp8e5m2) (g : v.ty.Contents (Elt Ideal)) (y) :
    v.read (Elt Ideal) (v.writes (Elt Ideal) g (codes2 arg3 f3 24)) y = codeB D t y := by
  rw [codes2_eq]
  refine read_pcs v g _ 24 (codeB D t) (fun q hq x => ?_) y (mem_rect2 y)
  obtain ⟨e0, e1⟩ := rect2_emb q hq x
  refine (CODE_val (ld2_tile H q hq) x).trans ?_
  unfold codeB
  rw [e0, e1]; congr 1; omega
theorem read_codes1 (H : HoldsD arg3 f3 D t 128) {κ} {sp : Space} (v : View sig κ sp S1536x256 .fp8e5m2) (g : v.ty.Contents (Elt Ideal)) (y) (hy : (y 1 : ℕ) < 128) :
    v.read (Elt Ideal) (v.writes (Elt Ideal) g (codes1 arg3 f3 12)) y = codeB D t y := by
  rw [codes1_eq]
  refine read_pcs v g _ 12 (codeB D t) (fun q hq x => ?_) y (mem_rect1 y hy)
  obtain ⟨e0, e1⟩ := rect1_emb q hq x
  refine (CODE_val (ld1_tile H q hq) x).trans ?_
  unfold codeB
  rw [e0, e1]; congr 1; omega
theorem canon_dys2 (H : HoldsD arg3 f3 D t 256) (y) : View.canon (dys2 arg3 f3 24) y = dysB D t y := by
  rw [dys2_eq]
  refine canon_pcs (s := S1536x256) (e := .bf16) (fun q => ⟨rect2 q, DYS (ld2 arg3 f3 q)⟩) 24 (dysB D t) (fun q hq x => ?_) y (mem_rect2 y)
  obtain ⟨e0, e1⟩ := rect2_emb q hq x
  refine (DYS_val (ld2_tile H q hq) x).trans ?_
  unfold dysB
  rw [e0, e1]; congr 1; omega
theorem canon_dys1 (H : HoldsD arg3 f3 D t 128) (y) (hy : (y 1 : ℕ) < 128) : View.canon (dys1 arg3 f3 12) y = dysB D t y := by
  rw [dys1_eq]
  refine canon_pcs (s := S1536x256) (e := .bf16) (fun q => ⟨rect1 q, DYS (ld1 arg3 f3 q)⟩) 12 (dysB D t) (fun q hq x => ?_) y (mem_rect1 y hy)
  obtain ⟨e0, e1⟩ := rect1_emb q hq x
  refine (DYS_val (ld1_tile H q hq) x).trans ?_
  unfold dysB
  rw [e0, e1]; congr 1; omega

theorem dall2_val (H : HoldsD arg3 f3 D t 256) (y : S1536x256.Idx) : dall2 arg3 f3 y = dysB D t y := by
  unfold dall2
  rw [View.readCov_eq_canon']
  refine (canon_dys2 H _).trans (congrArg _ (funext fun a => Fin.ext ?_))
  fin_cases a
  · show 0 + 1 * (y 0 : ℕ) = _; simp
  · show 0 + 1 * (y 1 : ℕ) = _; simp
theorem dall1_val (H : HoldsD arg3 f3 D t 128) (y : S1536x128.Idx) : dall1 arg3 f3 y = dysN ksc kin D (y 0) (256 * t + y 1) := by
  unfold dall1
  rw [View.readCov_eq_canon']
  refine (canon_dys1 H _ ?_).trans ?_
  · show 0 + 1 * (y 1 : ℕ) < 128
    have : (y 1 : ℕ) < 128 := (y 1).isLt
    omega
  · show dysN ksc kin D (0 + 1 * (y 0 : ℕ)) (256 * t + (0 + 1 * (y 1 : ℕ))) = _
    simp
theorem slab2_val (H : HoldsD arg3 f3 D t 256) (j : ℕ) (hj : j < 6) (y : S256x256.Idx) : slab2 arg3 f3 j y = dysN ksc kin D (256 * j + y 0) (256 * t + y 1) := by
  unfold slab2
  rw [View.readCov_eq_canon']
  refine (canon_dys2 H _).trans ?_
  show dysN ksc kin D (256 * (j % 6) + 1 * (y 0 : ℕ)) (256 * t + (0 + 1 * (y 1 : ℕ))) = _
  rw [Nat.mod_eq_of_lt hj]; simp
theorem slab1_val (H : HoldsD arg3 f3 D t 128) (j : ℕ) (hj : j < 6) (y : S256x128.Idx) : slab1 arg3 f3 j y = dysN ksc kin D (256 * j + y 0) (256 * t + y 1) := by
  unfold slab1
  rw [View.readCov_eq_canon']
  refine (canon_dys1 H _ ?_).trans ?_
  · show 0 + 1 * (y 1 : ℕ) < 128
    have : (y 1 : ℕ) < 128 := (y 1).isLt
    omega
  · show dysN ksc kin D (256 * (j % 6) + 1 * (y 0 : ℕ)) (256 * t + (0 + 1 * (y 1 : ℕ))) = _
    rw [Nat.mod_eq_of_lt hj]; simp

/-! ## The scales and the largest magnitude -/

/-- The scales, their first `n` columns done and the others zero. -/
def scaleB (D : ℕ → ℕ → EReal) (n : ℕ) (y : S3x4x45.Idx) : EReal := if (y 2 : ℕ) < n then scaleN ksc D (3 * (y 1 : ℕ) + (y 0 : ℕ)) (y 2) else 0

theorem srow2_val (H : HoldsD arg3 f3 D t 256) (ht : t < 23) (s : FVec Ideal S3x4x45 .f32) (y : S3x4x45.Idx) (n : ℕ) (hn : n ≤ 24) :
    srow2 arg3 f3 (BitVec.ofNat 32 t) s n y
      = if 2 * t ≤ (y 2 : ℕ) ∧ (y 2 : ℕ) < 2 * t + 2 ∧ 2 * (3 * (y 1 : ℕ) + (y 0 : ℕ)) + ((y 2 : ℕ) - 2 * t) < n then scaleN ksc D (3 * (y 1 : ℕ) + (y 0 : ℕ)) (y 2) else s y := by
  induction n with
  | zero => rw [if_neg (by omega)]; rfl
  | succ n ih =>
    rw [srow2, SEL_val t (n % 2) (n / 2) (by omega) ht (by omega), ih (by omega), SCB_val (ld2_tile H n (by omega))]
    by_cases h : (y 2 : ℕ) = 2 * t + n % 2 ∧ 3 * (y 1 : ℕ) + (y 0 : ℕ) = n / 2
    · rw [if_pos h, if_pos (by omega)]
      unfold scaleN; rw [h.1, h.2]
    · rw [if_neg h]
      exact if_congr (by omega) rfl rfl
theorem srow1_val (H : HoldsD arg3 f3 D t 128) (ht : t < 23) (s : FVec Ideal S3x4x45 .f32) (y : S3x4x45.Idx) (n : ℕ) (hn : n ≤ 12) :
    srow1 arg3 f3 (BitVec.ofNat 32 t) s n y
      = if (y 2 : ℕ) = 2 * t ∧ 3 * (y 1 : ℕ) + (y 0 : ℕ) < n then scaleN ksc D (3 * (y 1 : ℕ) + (y 0 : ℕ)) (y 2) else s y := by
  induction n with
  | zero => rw [if_neg (by omega)]; rfl
  | succ n ih =>
    rw [srow1, SEL_val t 0 n (by omega) ht (by omega), ih (by omega), SCB_val (ld1_tile H n (by omega))]
    by_cases h : (y 2 : ℕ) = 2 * t + 0 ∧ 3 * (y 1 : ℕ) + (y 0 : ℕ) = n
    · rw [if_pos h, if_pos (by omega)]
      unfold scaleN; rw [h.1, h.2, Nat.add_zero]
    · rw [if_neg h]
      exact if_congr (by omega) rfl rfl

theorem srow2_all (H : HoldsD arg3 f3 D t 256) (ht : t < 23) (s : FVec Ideal S3x4x45 .f32) (hs : ∀ y, s y = scaleB D (2 * t) y) (y : S3x4x45.Idx) :
    srow2 arg3 f3 (BitVec.ofNat 32 t) s 24 y = scaleB D (2 * (t + 1)) y := by
  have h0 : (y 0 : ℕ) < 3 := (y 0).isLt
  have h1 : (y 1 : ℕ) < 4 := (y 1).isLt
  rw [srow2_val H ht s y 24 le_rfl, hs]
  unfold scaleB
  by_cases h : (y 2 : ℕ) < 2 * t
  · rw [if_neg (by omega), if_pos h, if_pos (by omega)]
  · rw [if_neg h]
    exact if_congr (by omega) rfl rfl
theorem srow1_all (H : HoldsD arg3 f3 D t 128) (ht : t = 22) (s : FVec Ideal S3x4x45 .f32) (hs : ∀ y, s y = scaleB D (2 * t) y) (y : S3x4x45.Idx) :
    srow1 arg3 f3 (BitVec.ofNat 32 t) s 12 y = scaleB D (2 * (t + 1)) y := by
  have h0 : (y 0 : ℕ) < 3 := (y 0).isLt
  have h1 : (y 1 : ℕ) < 4 := (y 1).isLt
  have h2 : (y 2 : ℕ) < 45 := (y 2).isLt
  rw [srow1_val H (by omega) s y 12 le_rfl, hs]
  unfold scaleB
  by_cases h : (y 2 : ℕ) < 2 * t
  · rw [if_neg (by omega), if_pos h, if_pos (by omega)]
  · rw [if_neg h]
    exact if_congr (by omega) rfl rfl

theorem amax2_val (H : HoldsD arg3 f3 D t 256) (a : FVec Ideal S1x1 .f32) (y) (n : ℕ) (hn : n ≤ 24) :
    amax2 arg3 f3 a n y = a y ⊔ (Finset.range n).sup fun q => tmax D (q / 2) (2 * t + q % 2) := by
  induction n with
  | zero => exact (sup_bot_eq _).symm
  | succ n ih =>
    rw [Finset.range_add_one, Finset.sup_insert, sup_comm (α := EReal) (tmax _ _ _), ← sup_assoc, ← ih (by omega), ← AMAX_val (ld2_tile H n (by omega)) y]; rfl
theorem amax1_val (H : HoldsD arg3 f3 D t 128) (a : FVec Ideal S1x1 .f32) (y) (n : ℕ) (hn : n ≤ 12) :
    amax1 arg3 f3 a n y = a y ⊔ (Finset.range n).sup fun q => tmax D q (2 * t) := by
  induction n with
  | zero => exact (sup_bot_eq _).symm
  | succ n ih =>
    rw [Finset.range_add_one, Finset.sup_insert, sup_comm (α := EReal) (tmax _ _ _), ← sup_assoc, ← ih (by omega), ← AMAX_val (ld1_tile H n (by omega)) y]; rfl
theorem le_amaxN (D : ℕ → ℕ → EReal) (k n N : ℕ) (hk : k < 12) (hn : n < N) : tmax D k n ≤ amaxN D N :=
  le_sup_of_le_left (Finset.le_sup (f := fun q : ℕ × ℕ => tmax D q.1 q.2) (b := (k, n)) (Finset.mem_product.mpr ⟨Finset.mem_range.mpr hk, Finset.mem_range.mpr hn⟩))
theorem amaxN_mono (D : ℕ → ℕ → EReal) (n N : ℕ) (h : n ≤ N) : amaxN D n ≤ amaxN D N :=
  sup_le_sup_right (Finset.sup_mono (Finset.product_subset_product_right (Finset.range_mono h))) _
theorem amaxN_le (D : ℕ → ℕ → EReal) (N : ℕ) (b : EReal) (hb : 0 ≤ b) (h : ∀ k < 12, ∀ n < N, tmax D k n ≤ b) : amaxN D N ≤ b :=
  sup_le (Finset.sup_le fun q hq => h _ (Finset.mem_range.mp (Finset.mem_product.mp hq).1) _ (Finset.mem_range.mp (Finset.mem_product.mp hq).2)) hb
theorem amaxN_nonneg (D : ℕ → ℕ → EReal) (N : ℕ) : 0 ≤ amaxN D N := le_sup_right
theorem amax2_all (H : HoldsD arg3 f3 D t 256) (a : FVec Ideal S1x1 .f32) (y) (ha : a y = amaxN D (2 * t)) :
    amax2 arg3 f3 a 24 y = amaxN D (2 * t + 2) := by
  rw [amax2_val H a y 24 le_rfl, ha]
  refine le_antisymm (sup_le (amaxN_mono D _ _ (by omega)) (Finset.sup_le fun q hq => ?_)) (amaxN_le D _ _ (le_sup_of_le_left (amaxN_nonneg D _)) fun k hk n hn => ?_)
  · have := Finset.mem_range.mp hq
    exact le_amaxN D _ _ _ (by omega) (by omega)
  · by_cases h : n < 2 * t
    · exact le_sup_of_le_left (le_amaxN D _ _ _ hk h)
    · refine le_sup_of_le_right ?_
      have e := Finset.le_sup (f := fun q => tmax D (q / 2) (2 * t + q % 2)) (Finset.mem_range.mpr (show 2 * k + (n - 2 * t) < 24 by omega))
      have e1 : (2 * k + (n - 2 * t)) / 2 = k := by omega
      have e2 : 2 * t + (2 * k + (n - 2 * t)) % 2 = n := by omega
      simp only [e1, e2] at e
      exact e
theorem amax1_all (H : HoldsD arg3 f3 D t 128) (a : FVec Ideal S1x1 .f32) (y) (ha : a y = amaxN D (2 * t)) :
    amax1 arg3 f3 a 12 y = amaxN D (2 * t + 1) := by
  rw [amax1_val H a y 12 le_rfl, ha]
  refine le_antisymm (sup_le (amaxN_mono D _ _ (by omega)) (Finset.sup_le fun q hq => ?_)) (amaxN_le D _ _ (le_sup_of_le_left (amaxN_nonneg D _)) fun k hk n hn => ?_)
  · exact le_amaxN D _ _ _ (Finset.mem_range.mp hq) (by omega)
  · by_cases h : n < 2 * t
    · exact le_sup_of_le_left (le_amaxN D _ _ _ hk h)
    · refine le_sup_of_le_right ?_
      have e2 : 2 * t = n := by omega
      rw [e2]
      exact Finset.le_sup (f := fun q => tmax D q n) (Finset.mem_range.mpr hk)

/-! ## The products -/

variable {arg5 : Memref sig .tc .vmem S2880x256 .fp8e4m3} {f5 : Bf (F := Ideal) c arg5} {W : ℕ → ℕ → EReal}
/-- The block of the weights at point `t`: its first `w` columns; likewise of the gradient to add to. -/
def HoldsW {e : EltTy} (arg5 : Memref sig .tc .vmem S2880x256 e) (f5 : Bf (F := Ideal) c arg5) (W : ℕ → ℕ → Elt Ideal e) (t w : ℕ) : Prop :=
  ∀ y : S2880x256.Idx, (y 1 : ℕ) < w → arg5.view.read (Elt Ideal) f5 y = W (y 0) (256 * t + y 1)

theorem whole_idx2 (y : S2880x256.Idx) : (Rect.unit ![0, 0] S2880x256.size inb_S2880x256_S2880x256_0_0).toLoadRect.idx y = y := by
  funext a; apply Fin.ext
  fin_cases a
  · show 0 + 1 * (y 0 : ℕ) = _; simp
  · show 0 + 1 * (y 1 : ℕ) = _; simp
theorem ldW2 {e : EltTy} {arg : Memref sig .tc .vmem S2880x256 e} {f : Bf (F := Ideal) c arg} {W : ℕ → ℕ → Elt Ideal e} (H : HoldsW arg f W t 256) (y : S2880x256.Idx) :
    View.readAt (Elt Ideal) arg.view (Rect.unit ![0, 0] S2880x256.size inb_S2880x256_S2880x256_0_0).toLoadRect f y = W (y 0) (256 * t + y 1) := by
  rw [View.readAt_apply, whole_idx2]; exact H y (y 1).isLt
theorem ldW1 {e : EltTy} {arg : Memref sig .tc .vmem S2880x256 e} {f : Bf (F := Ideal) c arg} {W : ℕ → ℕ → Elt Ideal e} (H : HoldsW arg f W t 128) (y : S2880x128.Idx) :
    View.readAt (Elt Ideal) arg.view (Rect.unit (s := S2880x256) ![0, 0] S2880x128.size inb_S2880x256_S2880x128_0_0).toLoadRect f y = W (y 0) (256 * t + y 1) := by
  rw [View.readAt_apply]
  refine (H _ ?_).trans ?_
  · show 0 + 1 * (y 1 : ℕ) < 128
    have : (y 1 : ℕ) < 128 := (y 1).isLt
    omega
  · show W (0 + 1 * (y 0 : ℕ)) (256 * t + (0 + 1 * (y 1 : ℕ))) = _
    simp

theorem MGP2_all (H : HoldsD arg3 f3 D t 256) {X M : ℕ → ℕ → EReal} (x : Vec Ideal S2880x1536 .fp8e4m3) (hx : ∀ y, x y = X (y 0) (y 1))
    (g : Vec Ideal S2880x256 .f32) (hg : ∀ y, g y = M (y 0) (256 * t + y 1)) (s : EReal) (y) :
    MGP2 (F := Ideal) x (dall2 arg3 f3) g s y = mgoN ksc kin D X M s (y 0) (256 * t + y 1) := by
  rw [MGP2_val, hg]
  unfold mgoN
  rw [← Fin.sum_univ_eq_sum_range (fun p => X (y 0) p * dysN ksc kin D p (256 * t + y 1)) 1536]
  congr 2
  refine Finset.sum_congr rfl fun p _ => ?_
  rw [hx, dall2_val H]; rfl
theorem MGP1_all (H : HoldsD arg3 f3 D t 128) {X M : ℕ → ℕ → EReal} (x : Vec Ideal S2880x1536 .fp8e4m3) (hx : ∀ y, x y = X (y 0) (y 1))
    (g : Vec Ideal S2880x128 .f32) (hg : ∀ y, g y = M (y 0) (256 * t + y 1)) (s : EReal) (y) :
    MGP1 (F := Ideal) x (dall1 arg3 f3) g s y = mgoN ksc kin D X M s (y 0) (256 * t + y 1) := by
  rw [MGP1_val, hg]
  unfold mgoN
  rw [← Fin.sum_univ_eq_sum_range (fun p => X (y 0) p * dysN ksc kin D p (256 * t + y 1)) 1536]
  congr 2
  refine Finset.sum_congr rfl fun p _ => ?_
  rw [hx, dall1_val H]; rfl

/-- The accumulator after `n` of the sum's terms. -/
def accW (D W : ℕ → ℕ → EReal) (n : ℕ) (y : S2880x1536.Idx) : EReal := accN ksc kin D W n (y 0) (y 1)

theorem rectAcc_emb (j : ℕ) (hj : j < 6) (x : S2880x256.Idx) :
    (((rectAcc j).emb x) 0 : ℕ) = x 0 ∧ (((rectAcc j).emb x) 1 : ℕ) = 256 * j + x 1 := by
  constructor
  · show 0 + 1 * (x 0 : ℕ) = _; omega
  · show 256 * (j % 6) + 1 * (x 1 : ℕ) = _; omega
theorem mem_rectAcc' (j : ℕ) (hj : j < 6) (y : S2880x1536.Idx) : y ∈ (rectAcc j).set ↔ 256 * j ≤ (y 1 : ℕ) ∧ (y 1 : ℕ) < 256 * j + 256 := by
  have h0 : (y 0 : ℕ) < 2880 := (y 0).isLt
  rw [Rect.mem_set_unit, Fin.forall_fin_two]
  show ((0 ≤ (y 0 : ℕ) ∧ (y 0 : ℕ) < 0 + 2880) ∧ 256 * (j % 6) ≤ (y 1 : ℕ) ∧ (y 1 : ℕ) < 256 * (j % 6) + 256) ↔ _
  omega
theorem mem_rectAcc (y : S2880x1536.Idx) : ∃ j < 6, y ∈ (rectAcc j).set := by
  have h1 : (y 1 : ℕ) < 1536 := (y 1).isLt
  exact ⟨(y 1 : ℕ) / 256, by omega, (mem_rectAcc' _ (by omega) y).mpr (by omega)⟩

theorem ACCP2_all (H : HoldsD arg3 f3 D t 256) (HW : HoldsW arg5 f5 W t 256) (j : ℕ) (hj : j < 6) (a : Vec Ideal S2880x256 .f32)
    (x : S2880x256.Idx) (ha : a x = accW D W (256 * t) ((rectAcc j).emb x)) :
    ACCP2 (F := Ideal) (wld2 arg5 f5) a (slab2 arg3 f3 j) x = accW D W (256 * t + 256) ((rectAcc j).emb x) := by
  obtain ⟨e0, e1⟩ := rectAcc_emb j hj x
  rw [ACCP2_val, ha]
  unfold accW
  rw [e0, e1, accN_add]
  congr 1
  refine Finset.sum_congr rfl fun k _ => ?_
  rw [slab2_val H j hj]
  unfold wld2
  rw [ldW2 HW]; rfl
theorem ACCP1_all (H : HoldsD arg3 f3 D t 128) (HW : HoldsW arg5 f5 W t 128) (j : ℕ) (hj : j < 6) (a : Vec Ideal S2880x256 .f32)
    (x : S2880x256.Idx) (ha : a x = accW D W (256 * t) ((rectAcc j).emb x)) :
    ACCP1 (F := Ideal) (wld1 arg5 f5) a (slab1 arg3 f3 j) x = accW D W (256 * t + 128) ((rectAcc j).emb x) := by
  obtain ⟨e0, e1⟩ := rectAcc_emb j hj x
  rw [ACCP1_val, ha]
  unfold accW
  rw [e0, e1, accN_add]
  congr 1
  refine Finset.sum_congr rfl fun k _ => ?_
  rw [slab1_val H j hj]
  unfold wld1
  rw [ldW1 HW]; rfl

section
variable {fa : Bf (F := Ideal) c accS} (Ha : ∀ y, accS.view.read (Elt Ideal) fa y = accW D W (256 * t) y)
include Ha
theorem accB_eq (n : ℕ) : accB arg3 arg5 f3 f5 fa n = pcs (fun j => ⟨rectAcc j, ACCP2 (wld2 arg5 f5) (View.readAt (Elt Ideal) accS.view (rectAcc j).toLoadRect fa) (slab2 arg3 f3 j)⟩) n := by
  clear Ha
  induction n with | zero => rfl | succ n ih => rw [accB, pcs, ih]
theorem accC_eq (n : ℕ) : accC arg3 arg5 f3 f5 fa n = pcs (fun j => ⟨rectAcc j, ACCP1 (wld1 arg5 f5) (View.readAt (Elt Ideal) accS.view (rectAcc j).toLoadRect fa) (slab1 arg3 f3 j)⟩) n := by
  clear Ha
  induction n with | zero => rfl | succ n ih => rw [accC, pcs, ih]
theorem read_accB (H : HoldsD arg3 f3 D t 256) (HW : HoldsW arg5 f5 W t 256) (y) :
    accS.view.read (Elt Ideal) (accS.view.writes (Elt Ideal) fa (accB arg3 arg5 f3 f5 fa 6)) y = accW D W (256 * t + 256) y := by
  rw [accB_eq Ha]
  exact read_pcs accS.view fa _ 6 _ (fun j hj x => ACCP2_all H HW j hj _ x (Ha _)) y (mem_rectAcc y)
theorem read_accC (H : HoldsD arg3 f3 D t 128) (HW : HoldsW arg5 f5 W t 128) (y) :
    accS.view.read (Elt Ideal) (accS.view.writes (Elt Ideal) fa (accC arg3 arg5 f3 f5 fa 6)) y = accW D W (256 * t + 128) y := by
  rw [accC_eq Ha]
  exact read_pcs accS.view fa _ 6 _ (fun j hj x => ACCP1_all H HW j hj _ x (Ha _)) y (mem_rectAcc y)
theorem canon_accC (H : HoldsD arg3 f3 D t 128) (HW : HoldsW arg5 f5 W t 128) (y) :
    View.canon (accC arg3 arg5 f3 f5 fa 6) y = accW D W (256 * t + 128) y := by
  rw [accC_eq Ha]
  exact canon_pcs _ 6 _ (fun j hj x => ACCP1_all H HW j hj _ x (Ha _)) y (mem_rectAcc y)
end

theorem pay1_val (y) : k0_pay1 (F := Ideal) y = 0 := by
  unfold k0_pay1; pointwise
theorem pay4_val (y) : k0_pay4 (F := Ideal) y = 0 := by
  unfold k0_pay4; pointwise
theorem pay5_val (y) : k0_pay5 (F := Ideal) y = 0 := by
  unfold k0_pay5; pointwise
theorem pay6_val (v) (y) : k0_pay6 (F := Ideal) v y = v y := by
  unfold k0_pay6; pointwise
theorem pay7_val (v) (y) : k0_pay7 (F := Ideal) v y = v y := by
  unfold k0_pay7; pointwise

theorem canon_accA (H : HoldsD arg3 f3 D 0 256) (HW : HoldsW arg5 f5 W 0 256) (y) (n : ℕ) (hn : n ≤ 6) :
    View.canon (accA arg3 arg5 f3 f5 n) y = if (y 1 : ℕ) < 256 * n then accW D W 256 y else accW D W 0 y := by
  induction n generalizing y with
  | zero =>
    rw [if_neg (by omega)]
    have hy : y ∈ (Rect.unit ![0, 0] S2880x1536.size inb_S2880x1536_S2880x1536_0_0).set := View.mem_set_unit_zero (by decide) _ y
    obtain ⟨x, rfl⟩ := LoadRect.exists_idx_of_mem _ hy
    rw [accA]
    refine (View.canon_cons_emb _ _ _ x).trans ?_
    rw [pay1_val]
    unfold accW accN; simp
  | succ n ih =>
    have hn' : n < 6 := by omega
    by_cases hm : y ∈ (rectAcc n).set
    · have hb := (mem_rectAcc' n hn' y).mp hm
      rw [if_pos (by omega)]
      obtain ⟨x, rfl⟩ : ∃ x, (rectAcc n).emb x = y := (rectAcc n).exists_idx_of_mem hm
      rw [accA, View.canon_cons_emb]
      refine ACCP2_all H HW n hn' _ x ?_
      rw [View.readCov_eq_canon']
      refine (ih _ (by omega)).trans ?_
      exact if_neg (not_lt.mpr hb.1)
    · rw [accA]
      refine ((View.canon_cons_of_not_mem _ _ ?_).trans (ih y (by omega))).trans ?_
      · exact hm
      rw [mem_rectAcc' n hn'] at hm
      exact if_congr (by omega) rfl rfl
theorem canon_accA_all (H : HoldsD arg3 f3 D 0 256) (HW : HoldsW arg5 f5 W 0 256) (y) :
    View.canon (accA arg3 arg5 f3 f5 6) y = accW D W 256 y := by
  rw [canon_accA H HW y 6 le_rfl, if_pos]
  exact (y 1).isLt
end

end Cert.KernelIdeal.Hand
-- ==== Proof.Planes.lean ====
/-
  The kernel's own copies: the activations' four sequences laid side by side in the scratch matrix, and the input
  gradient's four written plane by plane into its array.
-/
module

public import proofs.«01_k».proof.Proof.BlockVal

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.Pointwise

/-- Where a plane's element lies in the array. -/
theorem plane_emb {sp : Space} {e : EltTy} (M : Memref sig .tc sp S4x2880x384 e) (b : ℕ) (z : S2880x384.Idx) :
    (plane M b).view.emb z = M.view.emb ((rectPlane b).emb (Fin.cons ⟨0, Nat.one_pos⟩ z)) := by
  show ((M.view.slice _).reshape S2880x384 _).emb z = _
  rw [View.emb_reshape, View.emb_slice]
  show M.view.emb ((rectPlane b).emb (Shape.reshapeEquiv _ z)) = _
  rw [Shape.reshapeEquiv_cons_one]
theorem read_plane {sp : Space} {e : EltTy} (M : Memref sig .tc sp S4x2880x384 e) (b : ℕ) (f : M.view.ty.Contents (Elt Ideal)) (z : S2880x384.Idx) :
    View.read (Elt Ideal) (plane M b).view f z = View.read (Elt Ideal) M.view f ((rectPlane b).emb (Fin.cons ⟨0, Nat.one_pos⟩ z)) := by
  show View.read (Elt Ideal) M.view f ((rectPlane b).emb (Shape.reshapeEquiv _ z)) = _
  rw [Shape.reshapeEquiv_cons_one]

theorem rectPlane_emb (b : ℕ) (hb : b < 4) (z : S2880x384.Idx) :
    (((rectPlane b).emb (Fin.cons ⟨0, Nat.one_pos⟩ z)) 0 : ℕ) = b ∧ (((rectPlane b).emb (Fin.cons ⟨0, Nat.one_pos⟩ z)) 1 : ℕ) = z 0
      ∧ (((rectPlane b).emb (Fin.cons ⟨0, Nat.one_pos⟩ z)) 2 : ℕ) = z 1 := by
  refine ⟨?_, ?_, ?_⟩
  · show b % 4 + 1 * 0 = _; omega
  · show 0 + 1 * (z 0 : ℕ) = _; omega
  · show 0 + 1 * (z 1 : ℕ) = _; omega
theorem exists_plane (y : S4x2880x384.Idx) (b : ℕ) (hb : b < 4) (hy : (y 0 : ℕ) = b) : ∃ z : S2880x384.Idx, y = (rectPlane b).emb (Fin.cons ⟨0, Nat.one_pos⟩ z) := by
  refine ⟨ix2 (y 1) (y 2), ?_⟩
  obtain ⟨e0, e1, e2⟩ := rectPlane_emb b hb (ix2 (y 1) (y 2))
  funext a; apply Fin.ext
  fin_cases a
  · exact hy.trans e0.symm
  · exact e1.symm
  · exact e2.symm

theorem rectSeq_emb (b : ℕ) (hb : b < 4) (x : S2880x384.Idx) :
    (((rectSeq b).emb x) 0 : ℕ) = x 0 ∧ (((rectSeq b).emb x) 1 : ℕ) = 384 * b + x 1 := by
  constructor
  · show 0 + 1 * (x 0 : ℕ) = _; omega
  · show 384 * (b % 4) + 1 * (x 1 : ℕ) = _; omega
theorem mem_rectSeq (y : S2880x1536.Idx) : ∃ b < 4, y ∈ (rectSeq b).set := by
  have h0 : (y 0 : ℕ) < 2880 := (y 0).isLt
  have h1 : (y 1 : ℕ) < 1536 := (y 1).isLt
  refine ⟨(y 1 : ℕ) / 384, by omega, Rect.mem_set_unit.mpr (Fin.forall_fin_two.mpr ⟨?_, ?_⟩)⟩
  · show 0 ≤ (y 0 : ℕ) ∧ (y 0 : ℕ) < 0 + 2880
    omega
  · show 384 * ((y 1 : ℕ) / 384 % 4) ≤ (y 1 : ℕ) ∧ (y 1 : ℕ) < 384 * ((y 1 : ℕ) / 384 % 4) + 384
    omega

section
variable {c : Dev nD} {fh : Bf (F := Ideal) c xH} {X : ℕ → ℕ → EReal}
/-- The activations' array holds `X`, its rows the input dimension and its columns the tokens, sequence after sequence. -/
def HoldsX (fh : Bf (F := Ideal) c xH) (X : ℕ → ℕ → EReal) : Prop :=
  ∀ z : S4x2880x384.Idx, View.read (Elt Ideal) xH.view fh z = X (z 1) (384 * (z 0 : ℕ) + (z 2 : ℕ))

theorem xsP_eq (n : ℕ) : xsP fh n = pcs (fun b => ⟨rectSeq b, ReadAs.same.apply (View.read (Elt Ideal) (plane xH b).view fh)⟩) n := by
  induction n with | zero => rfl | succ n ih => rw [xsP, pcs, ih]
theorem xsP_payload (H : HoldsX fh X) (b : ℕ) (hb : b < 4) (x : S2880x384.Idx) :
    (ReadAs.same.apply (View.read (Elt Ideal) (plane xH b).view fh) : S2880x384.Idx → EReal) x = X (((rectSeq b).emb x) 0) (((rectSeq b).emb x) 1) := by
  show View.read (Elt Ideal) (plane xH b).view fh x = _
  obtain ⟨e0, e1⟩ := rectSeq_emb b hb x
  obtain ⟨p0, p1, p2⟩ := rectPlane_emb b hb x
  rw [read_plane, H, e0, e1, p0, p1, p2]
theorem canon_xsP (H : HoldsX fh X) (y) : View.canon (xsP fh 4) y = X (y 0) (y 1) := by
  rw [xsP_eq]
  exact canon_pcs (s := S2880x1536) (e := .fp8e4m3) (fun b => ⟨rectSeq b, ReadAs.same.apply (View.read (Elt Ideal) (plane xH b).view fh)⟩) 4 (fun y => X (y 0) (y 1)) (fun b hb x => xsP_payload H b hb x) y (mem_rectSeq y)
theorem read_xsP (H : HoldsX fh X) {κ} {sp : Space} (v : View sig κ sp S2880x1536 .fp8e4m3) (g : v.ty.Contents (Elt Ideal)) (y) :
    v.read (Elt Ideal) (v.writes (Elt Ideal) g (xsP fh 4)) y = X (y 0) (y 1) := by
  rw [xsP_eq]
  exact read_pcs v g (fun b => ⟨rectSeq b, ReadAs.same.apply (View.read (Elt Ideal) (plane xH b).view fh)⟩) 4 (fun y => X (y 0) (y 1)) (fun b hb x => xsP_payload H b hb x) y (mem_rectSeq y)
end

section
variable {c : Dev nD} (s : EReal) (L : List (View.Piece (Elt Ideal) S2880x1536 .f32)) (fs : Bf (F := Ideal) c stS) (fo : Bf (F := Ideal) c dxH) {A : ℕ → ℕ → EReal}

theorem dxW_val (hL : ∀ y : S2880x1536.Idx, View.canon L y = A (y 0) (y 1)) (n : ℕ) (hn : n ≤ 4) (y : S4x2880x384.Idx) (hy : (y 0 : ℕ) < n) :
    View.read (Elt Ideal) dxH.view (dxW s L fs fo n) y = A (y 1) (384 * (y 0 : ℕ) + (y 2 : ℕ)) * s := by
  induction n with
  | zero => omega
  | succ n ih =>
    have hn' : n < 4 := by omega
    by_cases h : (y 0 : ℕ) = n
    · obtain ⟨z, rfl⟩ := exists_plane y n hn' h
      obtain ⟨p0, p1, p2⟩ := rectPlane_emb n hn' z
      rw [← read_plane, p0, p1, p2, dxW, View.read_write_univ]
      show View.read (Elt Ideal) (plane stS n).view _ z = _
      rw [read_plane, stP, View.read_writes_cons_emb, DXP_val, View.readCov_eq_canon']
      refine congrArg (· * s) ?_
      refine (hL _).trans ?_
      obtain ⟨e0, e1⟩ := rectSeq_emb n hn' (ix2 (z 0) (z 1))
      exact congrArg₂ A e0 e1
    · have h' := ih (by omega) (by omega)
      rw [← h', dxW]
      rw [View.read_apply, View.read_apply, View.write_of_not_mem]
      intro hm
      obtain ⟨z, -, hz⟩ := Finset.mem_map.mp hm
      rw [plane_emb] at hz
      obtain ⟨p0, -, -⟩ := rectPlane_emb n hn' z
      rw [dxH.view.emb.injective hz] at p0
      exact h p0
end

end Cert.KernelIdeal.Hand
-- ==== Proof.Inputs.lean ====
/-
  What the body's input blocks hold, by row and column: the windowed arrays cut into blocks of 256 columns, the last
  one half as wide.
-/
module

public import proofs.«01_k».proof.Proof.Frame
public import proofs.«01_k».proof.Proof.Planes
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.Pointwise

variable (m : (ℓ : Loc nD τ sig) → Buf (Elt Ideal) ℓ) (c : Dev nD)

/-- The arrays the region is given, by row and column: the gradient (tokens by output dimension), -/
def Dn (p o : ℕ) : EReal := if h : p < 1536 ∧ o < 5760 then (V m c main_v2 : S1536x5760.Idx → EReal) (ix2 ⟨p, h.1⟩ ⟨o, h.2⟩) else 0
/-- the activations (input dimension by tokens), -/
def Xn (d p : ℕ) : EReal := if h : d < 2880 ∧ p < 1536 then (V m c main_v3 : S4x2880x384.Idx → EReal) (ix3 ⟨p / 384, by omega⟩ ⟨d, h.1⟩ ⟨p % 384, by omega⟩) else 0
/-- the weights (input dimension by output dimension), -/
def Wn (d o : ℕ) : EReal := if h : d < 2880 ∧ o < 5760 then (V m c main_v4 : S2880x5760.Idx → EReal) (ix2 ⟨d, h.1⟩ ⟨o, h.2⟩) else 0
/-- what the weight gradient is added to, -/
def Mn (d o : ℕ) : EReal := if h : d < 2880 ∧ o < 5760 then (V m c main_v5 : S2880x5760.Idx → EReal) (ix2 ⟨d, h.1⟩ ⟨o, h.2⟩) else 0
/-- and the two given scales. -/
def xsn : EReal := (V m c main_v0 : S1.Idx → EReal) (ix1 0)
def wsn : EReal := (V m c main_v1 : S1.Idx → EReal) (ix1 0)

/-- The columns of the block at point `t`. -/
def wid (t : ℕ) : ℕ := if t = 22 then 128 else 256

theorem coord_val (t : Fin cfg0.N) : (grid0.coords t 0 : ℕ) = t.val :=
  (by decide +kernel : ∀ t : Fin grid0.N, (grid0.coords t 0 : ℕ) = t.val) t
theorem index_facts : ∀ t : Fin grid0.N, win0_2.index t = ![0, t.val] ∧ win0_3.index t = ![0, t.val] ∧ win0_4.index t = ![0, t.val]
    ∧ win0_5.index t = ![0, t.val] ∧ win0_6.index t = ![0, t.val] := by decide +kernel
theorem xsize_2 : ∀ t : Fin grid0.N, win0_2.xsize (grid0.coords t) 0 = 1536 ∧ win0_2.xsize (grid0.coords t) 1 = if t.val = 22 then 128 else 256 := by decide +kernel
theorem xsize_3 : ∀ t : Fin grid0.N, win0_3.xsize (grid0.coords t) 0 = 2880 ∧ win0_3.xsize (grid0.coords t) 1 = if t.val = 22 then 128 else 256 := by decide +kernel
theorem xsize_4 : ∀ t : Fin grid0.N, win0_4.xsize (grid0.coords t) 0 = 2880 ∧ win0_4.xsize (grid0.coords t) 1 = if t.val = 22 then 128 else 256 := by decide +kernel
theorem xsize_5 : ∀ t : Fin grid0.N, win0_5.xsize (grid0.coords t) 0 = 2880 ∧ win0_5.xsize (grid0.coords t) 1 = if t.val = 22 then 128 else 256 := by decide +kernel
theorem xsize_6 : ∀ t : Fin grid0.N, win0_6.xsize (grid0.coords t) 0 = 1536 ∧ win0_6.xsize (grid0.coords t) 1 = if t.val = 22 then 128 else 256 := by decide +kernel

theorem col_lt (t : Fin cfg0.N) (y : ℕ) (hy : y < wid t) : 256 * t.val + y < 5760 := by
  have ht : t.val < 23 := t.isLt
  unfold wid at hy; split at hy <;> omega

/-- What a fetch fills the three blocks with. -/
theorem fill_2 (t : Fin cfg0.N) (d) (y : S1536x256.Idx) (hy : (y 1 : ℕ) < wid t) :
    (cfg0.win 2).fill (cfg0.grid.coords t) d (iblk m c 2 t) y = Dn m c (y 0) (256 * t.val + y 1) := by
  have hm : (cfg0.win 2).moved (cfg0.grid.coords t) y = true := ((cfg0.win 2).moved_iff _ _).mpr (Fin.forall_fin_two.mpr
    ⟨by rw [show (cfg0.win 2).xsize (cfg0.grid.coords t) 0 = 1536 from (xsize_2 t).1]; exact (y 0).isLt,
      by rw [show (cfg0.win 2).xsize (cfg0.grid.coords t) 1 = wid t from (xsize_2 t).2]; exact hy⟩)
  have h0 : (y 0 : ℕ) < 1536 := (y 0).isLt
  have hw := col_lt t (y 1) hy
  unfold Pipeline.Window.fill
  rw [dif_pos hm]
  unfold Dn
  rw [dif_pos ⟨h0, hw⟩]
  blk_simp [iblk, (index_facts t).1]
  blk_ext [iblk, (index_facts t).1]
theorem fill_3 (t : Fin cfg0.N) (d) (y : S2880x256.Idx) (hy : (y 1 : ℕ) < wid t) :
    (cfg0.win 3).fill (cfg0.grid.coords t) d (iblk m c 3 t) y = Wn m c (y 0) (256 * t.val + y 1) := by
  have hm : (cfg0.win 3).moved (cfg0.grid.coords t) y = true := ((cfg0.win 3).moved_iff _ _).mpr (Fin.forall_fin_two.mpr
    ⟨by rw [show (cfg0.win 3).xsize (cfg0.grid.coords t) 0 = 2880 from (xsize_3 t).1]; exact (y 0).isLt,
      by rw [show (cfg0.win 3).xsize (cfg0.grid.coords t) 1 = wid t from (xsize_3 t).2]; exact hy⟩)
  have h0 : (y 0 : ℕ) < 2880 := (y 0).isLt
  have hw := col_lt t (y 1) hy
  unfold Pipeline.Window.fill
  rw [dif_pos hm]
  unfold Wn
  rw [dif_pos ⟨h0, hw⟩]
  blk_simp [iblk, (index_facts t).2.1]
  blk_ext [iblk, (index_facts t).2.1]
theorem fill_4 (t : Fin cfg0.N) (d) (y : S2880x256.Idx) (hy : (y 1 : ℕ) < wid t) :
    (cfg0.win 4).fill (cfg0.grid.coords t) d (iblk m c 4 t) y = Mn m c (y 0) (256 * t.val + y 1) := by
  have hm : (cfg0.win 4).moved (cfg0.grid.coords t) y = true := ((cfg0.win 4).moved_iff _ _).mpr (Fin.forall_fin_two.mpr
    ⟨by rw [show (cfg0.win 4).xsize (cfg0.grid.coords t) 0 = 2880 from (xsize_4 t).1]; exact (y 0).isLt,
      by rw [show (cfg0.win 4).xsize (cfg0.grid.coords t) 1 = wid t from (xsize_4 t).2]; exact hy⟩)
  have h0 : (y 0 : ℕ) < 2880 := (y 0).isLt
  have hw := col_lt t (y 1) hy
  unfold Pipeline.Window.fill
  rw [dif_pos hm]
  unfold Mn
  rw [dif_pos ⟨h0, hw⟩]
  blk_simp [iblk, (index_facts t).2.2.1]
  blk_ext [iblk, (index_facts t).2.2.1]

theorem index0_0 (t : Fin cfg0.N) : win0_0.index t 0 = 0 := rfl
theorem index0_1 (t : Fin cfg0.N) : win0_1.index t 0 = 0 := rfl
theorem iblk_0 (t : Fin cfg0.N) (y : S1.Idx) : iblk m c 0 t y = xsn m c := by
  unfold xsn
  blk_simp [iblk]
  blk_ext [iblk]
  exact index0_0 t
theorem iblk_1 (t : Fin cfg0.N) (y : S1.Idx) : iblk m c 1 t y = wsn m c := by
  unfold wsn
  blk_simp [iblk]
  blk_ext [iblk]
  exact index0_1 t

theorem holdsX : HoldsX (c := c) (V m c main_v3) (Xn m c) := by
  intro z
  have h0 : (z 0 : ℕ) < 4 := (z 0).isLt
  have h1 : (z 1 : ℕ) < 2880 := (z 1).isLt
  have h2 : (z 2 : ℕ) < 384 := (z 2).isLt
  unfold Xn
  rw [dif_pos ⟨h1, by omega⟩]
  show (V m c main_v3 : S4x2880x384.Idx → EReal) z = _
  refine congrArg _ (funext fun a => Fin.ext ?_)
  fin_cases a
  · show (z 0 : ℕ) = (384 * (z 0 : ℕ) + (z 2 : ℕ)) / 384; omega
  · rfl
  · show (z 2 : ℕ) = (384 * (z 0 : ℕ) + (z 2 : ℕ)) % 384; omega

/-- So a block found holding a fetch holds its columns of the array. -/
theorem holdsD_of (t : Fin cfg0.N) {arg3 : Memref sig .tc .vmem S1536x256 .bf16} {f3 : Bf (F := Ideal) c arg3} {d}
    (e : arg3.view.read (Elt Ideal) f3 = (cfg0.win 2).fill (cfg0.grid.coords t) d (iblk m c 2 t)) (w : ℕ) (hw : w = wid t) : HoldsD arg3 f3 (Dn m c) t w :=
  fun y hy => by rw [e]; exact fill_2 m c t d y (hw ▸ hy)
theorem holdsW_of (t : Fin cfg0.N) {arg5 : Memref sig .tc .vmem S2880x256 .fp8e4m3} {f5 : Bf (F := Ideal) c arg5} {d}
    (e : arg5.view.read (Elt Ideal) f5 = (cfg0.win 3).fill (cfg0.grid.coords t) d (iblk m c 3 t)) (w : ℕ) (hw : w = wid t) : HoldsW arg5 f5 (Wn m c) t w :=
  fun y hy => by rw [e]; exact fill_3 m c t d y (hw ▸ hy)
theorem holdsM_of (t : Fin cfg0.N) {arg6 : Memref sig .tc .vmem S2880x256 .f32} {f6 : Bf (F := Ideal) c arg6} {d}
    (e : arg6.view.read (Elt Ideal) f6 = (cfg0.win 4).fill (cfg0.grid.coords t) d (iblk m c 4 t)) (w : ℕ) (hw : w = wid t) : HoldsW arg6 f6 (Mn m c) t w :=
  fun y hy => by rw [e]; exact fill_4 m c t d y (hw ▸ hy)
theorem sca_of {arg1 : Memref sig .tc .smem S1 .f32} {f1 : Bf (F := Ideal) c arg1} {x : EReal} (e : ∀ y, arg1.view.read (Elt Ideal) f1 y = x) : sca arg1 f1 = x := e _

end Cert.KernelIdeal.Hand
-- ==== Proof.Step.lean ====
/-
  What one grid point leaves in each buffer, given what it found there: the pieces of Tiles.lean with their values of
  BlockVal.lean and Planes.lean put in.
-/
module

public import proofs.«01_k».proof.Proof.Inputs

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.Pointwise

theorem emb_unit0 {S : Shape} (o : Fin S.rank → ℕ) (ho : ∀ a, o a = 0) (h) (y : S.Idx) : (Rect.unit (s := S) o S.size h).emb y = y :=
  funext fun a => Fin.ext (by show o a + 1 * (y a : ℕ) = y a; rw [ho]; omega)
theorem zero2 : ∀ a, (![0, 0] : Fin 2 → ℕ) a = 0 := by decide
theorem zero3 : ∀ a, (![0, 0, 0] : Fin 3 → ℕ) a = 0 := by decide
/-- A store of the whole array is what is read back, -/
theorem read_whole {κ} {sp : Space} {S : Shape} {e : EltTy} (v : View sig κ sp S e) (g : v.ty.Contents (Elt Ideal)) (o : Fin S.rank → ℕ) (ho : ∀ a, o a = 0) (h)
    (x : S.Idx → Elt Ideal e) (L : List (View.Piece (Elt Ideal) S e)) (y) :
    v.read (Elt Ideal) (v.writes (Elt Ideal) g (⟨Rect.unit (s := S) o S.size h, x⟩ :: L)) y = x y := by
  have := View.read_writes_cons_emb v g (Rect.unit (s := S) o S.size h) x L y
  rwa [emb_unit0 o ho] at this
/-- whatever was there before; -/
theorem readCov_whole {κ} {sp : Space} {S : Shape} {e : EltTy} (v : View sig κ sp S e) (o : Fin S.rank → ℕ) (ho : ∀ a, o a = 0) (h) (h')
    (x : S.Idx → Elt Ideal e) (L : List (View.Piece (Elt Ideal) S e)) (y : S.Idx) :
    v.readCov (⟨Rect.unit (s := S) o S.size h, x⟩ :: L) (Rect.unit (s := S) o S.size h').toLoadRect y = x y := by
  rw [View.readCov_eq_canon']
  show View.canon _ ((Rect.unit (s := S) o S.size h').emb y) = _
  rw [emb_unit0 o ho]
  have := View.canon_cons_emb (Rect.unit (s := S) o S.size h) x L y
  rwa [emb_unit0 o ho] at this
/-- and a load of the whole array is what a read gives. -/
theorem readAt_whole {κ} {sp : Space} {S : Shape} {e : EltTy} (v : View sig κ sp S e) (g : v.ty.Contents (Elt Ideal)) (o : Fin S.rank → ℕ) (ho : ∀ a, o a = 0) (h) (y : S.Idx) :
    v.readAt (Elt Ideal) (Rect.unit (s := S) o S.size h).toLoadRect g y = v.read (Elt Ideal) g y := by
  rw [View.readAt_apply]
  show v.read (Elt Ideal) g ((Rect.unit (s := S) o S.size h).emb y) = _
  rw [emb_unit0 o ho]

/-- The left half of the block of columns. -/
abbrev rectHalf : Rect S2880x256 := Rect.unit (s := S2880x256) ![0, 0] S2880x128.size inb_S2880x256_S2880x128_0_0
def half (y : S2880x256.Idx) (hy : (y 1 : ℕ) < 128) : S2880x128.Idx := ix2 (y 0) ⟨y 1, hy⟩
theorem emb_half (y : S2880x256.Idx) (hy : (y 1 : ℕ) < 128) : rectHalf.emb (half y hy) = y := by
  refine funext fun a => Fin.ext ?_
  fin_cases a
  · show 0 + 1 * (y 0 : ℕ) = _; simp
  · show 0 + 1 * (y 1 : ℕ) = _; simp

section
variable {c : Dev nD} {arg1 arg2 : Memref sig .tc .smem S1 .f32} {arg3 : Memref sig .tc .vmem S1536x256 .bf16} {arg5 : Memref sig .tc .vmem S2880x256 .fp8e4m3}
  {arg6 arg7 : Memref sig .tc .vmem S2880x256 .f32} {arg9 : Memref sig .tc .vmem S3x4x45 .f32} {arg10 : Memref sig .tc .vmem S1x1 .f32}
  {f1 : Bf (F := Ideal) c arg1} {f2 : Bf (F := Ideal) c arg2} {f3 : Bf (F := Ideal) c arg3} {f5 : Bf (F := Ideal) c arg5} {f6 : Bf (F := Ideal) c arg6} {f9 : Bf (F := Ideal) c arg9} {f10 : Bf (F := Ideal) c arg10}
  {fx : Bf (F := Ideal) c xS} {fa : Bf (F := Ideal) c accS} {fh : Bf (F := Ideal) c xH}
  {D X W M : ℕ → ℕ → EReal} {t : ℕ} {s : EReal}

/-! ## The weight gradient -/

theorem mgo_A_val (H : HoldsD arg3 f3 D t 256) (hX : HoldsX fh X) (hM : HoldsW (e := .f32) arg6 f6 M t 256) (hs : sca arg1 f1 = s) (g) (y : S2880x256.Idx) :
    arg7.view.read (Elt Ideal) (arg7.view.writes (Elt Ideal) g [⟨Rect.unit ![0, 0] S2880x256.size inb_S2880x256_S2880x256_0_0,
      MGP2 (xS.view.readCov (xsP (c := c) fh 4) (Rect.unit ![0, 0] S2880x1536.size inb_S2880x1536_S2880x1536_0_0).toLoadRect) (dall2 arg3 f3)
        (View.readAt (Elt Ideal) arg6.view (Rect.unit ![0, 0] S2880x256.size inb_S2880x256_S2880x256_0_0).toLoadRect f6) (sca arg1 f1)⟩]) y
      = mgoN ksc kin D X M s (y 0) (256 * t + y 1) := by
  refine (read_whole arg7.view g ![0, 0] zero2 _ _ _ y).trans ?_
  rw [hs]
  refine MGP2_all H _ (fun y => ?_) _ (fun y => ldW2 hM y) s y
  rw [View.readCov_eq_canon']
  show View.canon _ ((Rect.unit (s := S2880x1536) ![0, 0] S2880x1536.size inb_S2880x1536_S2880x1536_0_0).emb y) = _
  rw [emb_unit0 _ zero2]
  exact canon_xsP hX y

theorem mgo_B_val (H : HoldsD arg3 f3 D t 256) (hX : ∀ y : S2880x1536.Idx, xS.view.read (Elt Ideal) fx y = X (y 0) (y 1)) (hM : HoldsW (e := .f32) arg6 f6 M t 256) (hs : sca arg1 f1 = s) (g) (y : S2880x256.Idx) :
    arg7.view.read (Elt Ideal) (arg7.view.writes (Elt Ideal) g [⟨Rect.unit ![0, 0] S2880x256.size inb_S2880x256_S2880x256_0_0,
      MGP2 (View.readAt (Elt Ideal) xS.view (Rect.unit ![0, 0] S2880x1536.size inb_S2880x1536_S2880x1536_0_0).toLoadRect fx) (dall2 arg3 f3)
        (View.readAt (Elt Ideal) arg6.view (Rect.unit ![0, 0] S2880x256.size inb_S2880x256_S2880x256_0_0).toLoadRect f6) (sca arg1 f1)⟩]) y
      = mgoN ksc kin D X M s (y 0) (256 * t + y 1) := by
  refine (read_whole arg7.view g ![0, 0] zero2 _ _ _ y).trans ?_
  rw [hs]
  exact MGP2_all H _ (fun y => (readAt_whole xS.view fx ![0, 0] zero2 _ y).trans (hX y)) _ (fun y => ldW2 hM y) s y

theorem mgo_C_val (H : HoldsD arg3 f3 D t 128) (hX : ∀ y : S2880x1536.Idx, xS.view.read (Elt Ideal) fx y = X (y 0) (y 1)) (hM : HoldsW (e := .f32) arg6 f6 M t 128) (hs : sca arg1 f1 = s) (g) (y : S2880x256.Idx)
    (hy : (y 1 : ℕ) < 128) :
    arg7.view.read (Elt Ideal) (arg7.view.writes (Elt Ideal) g [⟨Rect.unit (s := S2880x256) ![0, 0] S2880x128.size inb_S2880x256_S2880x128_0_0,
      MGP1 (View.readAt (Elt Ideal) xS.view (Rect.unit ![0, 0] S2880x1536.size inb_S2880x1536_S2880x1536_0_0).toLoadRect fx) (dall1 arg3 f3)
        (View.readAt (Elt Ideal) arg6.view (Rect.unit (s := S2880x256) ![0, 0] S2880x128.size inb_S2880x256_S2880x128_0_0).toLoadRect f6) (sca arg1 f1)⟩]) y
      = mgoN ksc kin D X M s (y 0) (256 * t + y 1) := by
  have e : arg7.view.read (Elt Ideal) (arg7.view.writes (Elt Ideal) g [⟨rectHalf, MGP1 (View.readAt (Elt Ideal) xS.view (Rect.unit ![0, 0] S2880x1536.size inb_S2880x1536_S2880x1536_0_0).toLoadRect fx) (dall1 arg3 f3)
        (View.readAt (Elt Ideal) arg6.view (Rect.unit (s := S2880x256) ![0, 0] S2880x128.size inb_S2880x256_S2880x128_0_0).toLoadRect f6) (sca arg1 f1)⟩]) (rectHalf.emb (half y hy))
      = mgoN ksc kin D X M s (y 0) (256 * t + y 1) := by
    refine (View.read_writes_cons_emb arg7.view g rectHalf _ [] (half y hy)).trans ?_
    rw [hs]
    exact MGP1_all H _ (fun y => (readAt_whole xS.view fx ![0, 0] zero2 _ y).trans (hX y)) _ (fun y => ldW1 hM y) s (half y hy)
  rwa [emb_half] at e

/-! ## The scales and the largest magnitude -/

theorem scaleB_zero (y) : scaleB D (2 * 0) y = 0 := if_neg (by omega)
theorem amaxN_zero : amaxN D (2 * 0) = 0 := by unfold amaxN; simp

theorem scales_A_val (H : HoldsD arg3 f3 D 0 256) (w : BitVec 32) (hw : w = BitVec.ofNat 32 0) (g) (L) (y : S3x4x45.Idx) :
    arg9.view.read (Elt Ideal) (arg9.view.writes (Elt Ideal) g (⟨Rect.unit ![0, 0, 0] S3x4x45.size inb_S3x4x45_S3x4x45_0_0_0,
      srow2 arg3 f3 w (k0_pay6 (arg9.view.readCov [⟨Rect.unit ![0, 0, 0] S3x4x45.size inb_S3x4x45_S3x4x45_0_0_0, k0_pay4 (F := Ideal)⟩] (Rect.unit ![0, 0, 0] S3x4x45.size inb_S3x4x45_S3x4x45_0_0_0).toLoadRect)) 24⟩
        :: L)) y = scaleB D 2 y := by
  refine (read_whole arg9.view g ![0, 0, 0] zero3 _ _ _ y).trans ?_
  subst hw
  refine srow2_all H (by omega) _ (fun y => ?_) y
  rw [pay6_val, scaleB_zero]
  exact (readCov_whole arg9.view ![0, 0, 0] zero3 _ _ _ _ y).trans (pay4_val y)
theorem scales_B_val (H : HoldsD arg3 f3 D t 256) (ht : t < 23) (w : BitVec 32) (hw : w = BitVec.ofNat 32 t) (hs : ∀ y, arg9.view.read (Elt Ideal) f9 y = scaleB D (2 * t) y) (g) (y : S3x4x45.Idx) :
    arg9.view.read (Elt Ideal) (arg9.view.writes (Elt Ideal) g [⟨Rect.unit ![0, 0, 0] S3x4x45.size inb_S3x4x45_S3x4x45_0_0_0,
      srow2 arg3 f3 w (k0_pay6 (View.readAt (Elt Ideal) arg9.view (Rect.unit ![0, 0, 0] S3x4x45.size inb_S3x4x45_S3x4x45_0_0_0).toLoadRect f9)) 24⟩]) y = scaleB D (2 * (t + 1)) y := by
  refine (read_whole arg9.view g ![0, 0, 0] zero3 _ _ _ y).trans ?_
  subst hw
  refine srow2_all H ht _ (fun y => ?_) y
  rw [pay6_val]
  exact (readAt_whole arg9.view f9 ![0, 0, 0] zero3 _ y).trans (hs y)
theorem scales_C_val (H : HoldsD arg3 f3 D t 128) (ht : t = 22) (w : BitVec 32) (hw : w = BitVec.ofNat 32 t) (hs : ∀ y, arg9.view.read (Elt Ideal) f9 y = scaleB D (2 * t) y) (g) (y : S3x4x45.Idx) :
    arg9.view.read (Elt Ideal) (arg9.view.writes (Elt Ideal) g [⟨Rect.unit ![0, 0, 0] S3x4x45.size inb_S3x4x45_S3x4x45_0_0_0,
      srow1 arg3 f3 w (k0_pay6 (View.readAt (Elt Ideal) arg9.view (Rect.unit ![0, 0, 0] S3x4x45.size inb_S3x4x45_S3x4x45_0_0_0).toLoadRect f9)) 12⟩]) y = scaleB D (2 * (t + 1)) y := by
  refine (read_whole arg9.view g ![0, 0, 0] zero3 _ _ _ y).trans ?_
  subst hw
  refine srow1_all H ht _ (fun y => ?_) y
  rw [pay6_val]
  exact (readAt_whole arg9.view f9 ![0, 0, 0] zero3 _ y).trans (hs y)

theorem amax_A_val (H : HoldsD arg3 f3 D 0 256) (g) (L) (y : S1x1.Idx) :
    arg10.view.read (Elt Ideal) (arg10.view.writes (Elt Ideal) g (⟨Rect.unit ![0, 0] S1x1.size inb_S1x1_S1x1_0_0,
      amax2 arg3 f3 (k0_pay7 (arg10.view.readCov [⟨Rect.unit ![0, 0] S1x1.size inb_S1x1_S1x1_0_0, k0_pay5 (F := Ideal)⟩] (Rect.unit ![0, 0] S1x1.size inb_S1x1_S1x1_0_0).toLoadRect)) 24⟩
        :: L)) y = amaxN D 2 := by
  refine (read_whole arg10.view g ![0, 0] zero2 _ _ _ y).trans (amax2_all H _ y ?_)
  rw [pay7_val, amaxN_zero]
  exact (readCov_whole arg10.view ![0, 0] zero2 _ _ _ _ y).trans (pay5_val y)
theorem amax_B_val (H : HoldsD arg3 f3 D t 256) (hs : ∀ y, arg10.view.read (Elt Ideal) f10 y = amaxN D (2 * t)) (g) (y : S1x1.Idx) :
    arg10.view.read (Elt Ideal) (arg10.view.writes (Elt Ideal) g [⟨Rect.unit ![0, 0] S1x1.size inb_S1x1_S1x1_0_0,
      amax2 arg3 f3 (k0_pay7 (View.readAt (Elt Ideal) arg10.view (Rect.unit ![0, 0] S1x1.size inb_S1x1_S1x1_0_0).toLoadRect f10)) 24⟩]) y = amaxN D (2 * t + 2) := by
  refine (read_whole arg10.view g ![0, 0] zero2 _ _ _ y).trans (amax2_all H _ y ?_)
  rw [pay7_val]
  exact (readAt_whole arg10.view f10 ![0, 0] zero2 _ y).trans (hs y)
theorem amax_C_val (H : HoldsD arg3 f3 D t 128) (hs : ∀ y, arg10.view.read (Elt Ideal) f10 y = amaxN D (2 * t)) (g) (y : S1x1.Idx) :
    arg10.view.read (Elt Ideal) (arg10.view.writes (Elt Ideal) g [⟨Rect.unit ![0, 0] S1x1.size inb_S1x1_S1x1_0_0,
      amax1 arg3 f3 (k0_pay7 (View.readAt (Elt Ideal) arg10.view (Rect.unit ![0, 0] S1x1.size inb_S1x1_S1x1_0_0).toLoadRect f10)) 12⟩]) y = amaxN D (2 * t + 1) := by
  refine (read_whole arg10.view g ![0, 0] zero2 _ _ _ y).trans (amax1_all H _ y ?_)
  rw [pay7_val]
  exact (readAt_whole arg10.view f10 ![0, 0] zero2 _ y).trans (hs y)

/-! ## The accumulator -/

theorem acc_A_val (H : HoldsD arg3 f3 D 0 256) (HW : HoldsW (e := .fp8e4m3) arg5 f5 W 0 256) (g) (y : S2880x1536.Idx) :
    accS.view.read (Elt Ideal) (accS.view.writes (Elt Ideal) g (accA arg3 arg5 f3 f5 6)) y = accW D W 256 y := by
  obtain ⟨j, hj, hm⟩ := mem_rectAcc y
  have key : ∀ n ≤ 6, j < n → ∃ p ∈ accA arg3 arg5 f3 f5 n, y ∈ p.1.set := by
    intro n hn hjn
    induction n with
    | zero => omega
    | succ n ih =>
      rw [accA]
      by_cases e : j = n
      · exact ⟨_, List.mem_cons_self, e ▸ hm⟩
      · obtain ⟨p, hp, hy⟩ := ih (by omega) (by omega)
        exact ⟨p, List.mem_cons_of_mem _ hp, hy⟩
  exact (View.read_writes_apply_eq_canon accS.view g y _ (key 6 le_rfl hj)).trans (canon_accA_all H HW y)
end

end Cert.KernelIdeal.Hand

end
-- ==== Proof.Value.lean ====
/-
  The run of the kernel with what it leaves: the proof data say what every buffer holds after each grid point, the body
  is proved to leave that, and the launch gives the arrays at the end.
-/
module

public import proofs.«01_k».proof.Proof.Step
public import Idealize.ShloMosaic.Lib.Pipeline.FrameSuffixV

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

variable (m : (ℓ : Loc nD τ sig) → Buf (Elt Ideal) ℓ) (ρ : Dev nD → PrngReg)

/-- The blocks of the weight gradient and of the codes after point `t`, the scales so far and the largest magnitude so far. -/
def aft5 (c : Dev nD) (t : ℕ) (y : S2880x256.Idx) : EReal := mgoN ksc kin (Dn m c) (Xn m c) (Mn m c) (xsn m c) (y 0) (256 * t + y 1)
def aft6 (c : Dev nD) (t : ℕ) (y : S1536x256.Idx) : EReal := codeB (Dn m c) t y
def aft7 (c : Dev nD) (t : ℕ) (y : S3x4x45.Idx) : EReal := scaleB (Dn m c) (2 * (t + 1)) y
def aft8 (c : Dev nD) (t : ℕ) (y : S1x1.Idx) : EReal := amaxN (Dn m c) (min (2 * (t + 1)) 45)
/-- The input gradient, as the region writes it. -/
def dxG (c : Dev nD) (y : S4x2880x384.Idx) : EReal := accN ksc kin (Dn m c) (Wn m c) 5760 (y 1) (384 * (y 0 : ℕ) + (y 2 : ℕ)) * wsn m c

/-- Between the points: the scratch copy of the activations is in place and the accumulator holds the sum over the columns
    done, from the first point on; the input gradient is written after the last. -/
def PhiV (c : Dev nD) (n : ℕ) : sProp 𝕄 :=
  iprop((∃ fx : Bf (F := Ideal) c xS, ⌜n ≠ 0 → ∀ y, xS.view.read (Elt Ideal) fx y = Xn m c (y 0) (y 1)⌝ ∗ pt c xS fx)
    ∗ (∃ fa : Bf (F := Ideal) c accS, ⌜n ≠ 0 → ∀ y, accS.view.read (Elt Ideal) fa y = accW (Dn m c) (Wn m c) (min (256 * n) 5760) y⌝ ∗ pt c accS fa)
    ∗ (∃ f, pt c dysS f) ∗ (∃ f, pt c stS f) ∗ sems0 c ∗ pt c xH (V m c main_v3)
    ∗ (∃ fo : Bf (F := Ideal) c dxH, ⌜n = 23 → ∀ y, View.read (Elt Ideal) dxH.view fo y = dxG m c y⌝ ∗ pt c dxH fo))

def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Classical.ofNonempty) (iblk m c 2 t)
    | ⟨3, _⟩ => (cfg0.win 3).fill (cfg0.grid.coords t) (fun _ => Classical.ofNonempty) (iblk m c 3 t)
    | ⟨4, _⟩ => (cfg0.win 4).fill (cfg0.grid.coords t) (fun _ => Classical.ofNonempty) (iblk m c 4 t)
    | ⟨5, _⟩ => aft5 m c t.val
    | ⟨6, _⟩ => aft6 m c t.val
    | ⟨7, _⟩ => aft7 m c t.val
    | ⟨8, _⟩ => aft8 m c t.val
  Φ n := PhiV m c n.val
  q _ := fullShare
  owed _ := 0

theorem AV_eq (c : Dev nD) (w : Fin cfg0.W) : (datsV m 0 c).A w = V m c (Pipeline.arrRef spec0 w) := by dsimp only [datsV]

theorem beforeV_0 (c : Dev nD) (t : Fin cfg0.N) (d) : (datsV m 0 c).before 0 t d = iblk m c 0 t :=
  ((datsV m 0 c).before_in_eq_fetched 0 rfl (fun _ => rfl) (fun _ _ _ => rfl)
    (fun t => by dsimp only [datsV]; unfold Dat.blockOf iblk; rfl) t d).trans
    (by unfold Dat.fetched Dat.blockOf iblk; rw [AV_eq]; rfl)
theorem beforeV_1 (c : Dev nD) (t : Fin cfg0.N) (d) : (datsV m 0 c).before 1 t d = iblk m c 1 t :=
  ((datsV m 0 c).before_in_eq_fetched 1 rfl (fun _ => rfl) (fun _ _ _ => rfl)
    (fun t => by dsimp only [datsV]; unfold Dat.blockOf iblk; rfl) t d).trans
    (by unfold Dat.fetched Dat.blockOf iblk; rw [AV_eq]; rfl)
theorem beforeV_2 (c : Dev nD) (t : Fin cfg0.N) (d) :
    (datsV m 0 c).before 2 t d = (cfg0.win 2).fill (cfg0.grid.coords t) d (iblk m c 2 t) := by
  unfold Dat.before; rw [if_pos (fetch0_2 t)]; unfold Dat.fetched Dat.blockOf iblk; rw [AV_eq]
theorem beforeV_3 (c : Dev nD) (t : Fin cfg0.N) (d) :
    (datsV m 0 c).before 3 t d = (cfg0.win 3).fill (cfg0.grid.coords t) d (iblk m c 3 t) := by
  unfold Dat.before; rw [if_pos (fetch0_3 t)]; unfold Dat.fetched Dat.blockOf iblk; rw [AV_eq]
theorem beforeV_4 (c : Dev nD) (t : Fin cfg0.N) (d) :
    (datsV m 0 c).before 4 t d = (cfg0.win 4).fill (cfg0.grid.coords t) d (iblk m c 4 t) := by
  unfold Dat.before; rw [if_pos (fetch0_4 t)]; unfold Dat.fetched Dat.blockOf iblk; rw [AV_eq]
theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_5 (c : Dev nD) (t : Fin cfg0.N) : (datsV m 0 c).after 5 t = aft5 m c t.val := by dsimp only [datsV]
theorem afterV_6 (c : Dev nD) (t : Fin cfg0.N) : (datsV m 0 c).after 6 t = aft6 m c t.val := by dsimp only [datsV]
theorem afterV_7 (c : Dev nD) (t : Fin cfg0.N) : (datsV m 0 c).after 7 t = aft7 m c t.val := by dsimp only [datsV]
theorem afterV_8 (c : Dev nD) (t : Fin cfg0.N) : (datsV m 0 c).after 8 t = aft8 m c t.val := by dsimp only [datsV]
theorem cutV_2 (c : Dev nD) (t : Fin cfg0.N) : (cfg0.win 2).cut (cfg0.grid.coords t) ((datsV m 0 c).after 2 t) = iblk m c 2 t := by
  dsimp only [datsV]; rw [(cfg0.win 2).cut_fill]
theorem cutV_3 (c : Dev nD) (t : Fin cfg0.N) : (cfg0.win 3).cut (cfg0.grid.coords t) ((datsV m 0 c).after 3 t) = iblk m c 3 t := by
  dsimp only [datsV]; rw [(cfg0.win 3).cut_fill]
theorem cutV_4 (c : Dev nD) (t : Fin cfg0.N) : (cfg0.win 4).cut (cfg0.grid.coords t) ((datsV m 0 c).after 4 t) = iblk m c 4 t := by
  dsimp only [datsV]; rw [(cfg0.win 4).cut_fill]
/-- No point is idle for an output. -/
theorem idle5 : ∀ i : grid0.Coords, idle0 5 i = false := by decide +kernel
theorem idle6 : ∀ i : grid0.Coords, idle0 6 i = false := by decide +kernel
theorem idle7 : ∀ i : grid0.Coords, idle0 7 i = false := by decide +kernel
theorem idle8 : ∀ i : grid0.Coords, idle0 8 i = false := by decide +kernel
/-- The two kept outputs' buffers hold what the point before left. -/
theorem beforeV_7 (c : Dev nD) (t : Fin cfg0.N) (ht : t.val ≠ 0) (d) : (datsV m 0 c).before 7 t d = aft7 m c (t.val - 1) := by
  have hl : t.val < 23 := t.isLt
  refine ((datsV m 0 c).before_out_kept 7 rfl t ht ?_ idle7 (fun _ _ => rfl) d).trans (afterV_7 m c _)
  exact Bool.eq_false_iff.mpr fun h => by have := (flush0_7 _).mp h; dsimp only at this; omega
theorem beforeV_8 (c : Dev nD) (t : Fin cfg0.N) (ht : t.val ≠ 0) (d) : (datsV m 0 c).before 8 t d = aft8 m c (t.val - 1) := by
  have hl : t.val < 23 := t.isLt
  refine ((datsV m 0 c).before_out_kept 8 rfl t ht ?_ idle8 (fun _ _ => rfl) d).trans (afterV_8 m c _)
  exact Bool.eq_false_iff.mpr fun h => by have := (flush0_8 _).mp h; dsimp only at this; omega

/-- What the body is handed at a point, and what it must leave. -/
def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d))
    ∗ (∃ d, owns (c : Thread nD τ) (st0_7 t) fullShare ((datsV m 0 c).before 7 t d))
    ∗ (∃ d, owns (c : Thread nD τ) (st0_8 t) fullShare ((datsV m 0 c).before 8 t d)))
def bodyPostV (c : Dev nD) (t : Fin cfg0.N) : sProp 𝕄 :=
  iprop((datsV m 0 c).Φ t.succ ∗ (datsV m 0 c).owesAt () t.succ
    ∗ owns (c : Thread nD τ) (st0_0 t) fullShare ((datsV m 0 c).after 0 t)
    ∗ owns (c : Thread nD τ) (st0_1 t) fullShare ((datsV m 0 c).after 1 t)
    ∗ (∃ d, owns (c : Thread nD τ) (st0_2 t) fullShare ((cfg0.win 2).fill (cfg0.grid.coords t) d ((cfg0.win 2).cut (cfg0.grid.coords t) ((datsV m 0 c).after 2 t))))
    ∗ (∃ d, owns (c : Thread nD τ) (st0_3 t) fullShare ((cfg0.win 3).fill (cfg0.grid.coords t) d ((cfg0.win 3).cut (cfg0.grid.coords t) ((datsV m 0 c).after 3 t))))
    ∗ (∃ d, owns (c : Thread nD τ) (st0_4 t) fullShare ((cfg0.win 4).fill (cfg0.grid.coords t) d ((cfg0.win 4).cut (cfg0.grid.coords t) ((datsV m 0 c).after 4 t))))
    ∗ (∃ d, owns (c : Thread nD τ) (st0_5 t) fullShare ((cfg0.win 5).fill (cfg0.grid.coords t) d ((cfg0.win 5).cut (cfg0.grid.coords t) ((datsV m 0 c).after 5 t))))
    ∗ (∃ d, owns (c : Thread nD τ) (st0_6 t) fullShare ((cfg0.win 6).fill (cfg0.grid.coords t) d ((cfg0.win 6).cut (cfg0.grid.coords t) ((datsV m 0 c).after 6 t))))
    ∗ owns (c : Thread nD τ) (st0_7 t) fullShare ((datsV m 0 c).after 7 t)
    ∗ owns (c : Thread nD τ) (st0_8 t) fullShare ((datsV m 0 c).after 8 t))

/-- Buffers held at what the data name. -/
theorem ownsV_of (c : Dev nD) {sp : Space} {S : Shape} {e : EltTy} (M : Memref sig .tc sp S e) (f : Bf (F := Ideal) c M) (X : S.Idx → Elt Ideal e)
    (h : ∀ y, M.view.read (Elt Ideal) f y = X y) : pt c M f ⊢ (owns (c : Thread nD τ) M fullShare X : sProp 𝕄) := by
  unfold owns; iintro H; iexists f; isplitr; · ipureintro; exact funext h
  iexact H
theorem cut5_of (c : Dev nD) (t : Fin cfg0.N) (Y X : S2880x256.Idx → EReal) (h : ∀ y : S2880x256.Idx, (y 1 : ℕ) < wid t → Y y = X y) :
    (cfg0.win 5).fill (cfg0.grid.coords t) Y ((cfg0.win 5).cut (cfg0.grid.coords t) X) = Y := by
  refine (cfg0.win 5).fill_congr_cut _ (funext fun j => h _ ?_)
  exact (j 1).isLt.trans_eq (show ((cfg0.win 5).xblock (cfg0.grid.coords t)).size 1 = wid t from (xsize_5 t).2)
theorem cut6_of (c : Dev nD) (t : Fin cfg0.N) (Y X : S1536x256.Idx → EReal) (h : ∀ y : S1536x256.Idx, (y 1 : ℕ) < wid t → Y y = X y) :
    (cfg0.win 6).fill (cfg0.grid.coords t) Y ((cfg0.win 6).cut (cfg0.grid.coords t) X) = Y := by
  refine (cfg0.win 6).fill_congr_cut _ (funext fun j => h _ ?_)
  exact (j 1).isLt.trans_eq (show ((cfg0.win 6).xblock (cfg0.grid.coords t)).size 1 = wid t from (xsize_6 t).2)
theorem owns5_of (c : Dev nD) (t : Fin cfg0.N) (f : Bf (F := Ideal) c (st0_5 t)) (h : ∀ y : S2880x256.Idx, (y 1 : ℕ) < wid t → (st0_5 t).view.read (Elt Ideal) f y = aft5 m c t.val y) :
    pt c (st0_5 t) f ⊢ (iprop(∃ d, owns (c : Thread nD τ) (st0_5 t) fullShare ((cfg0.win 5).fill (cfg0.grid.coords t) d ((cfg0.win 5).cut (cfg0.grid.coords t) ((datsV m 0 c).after 5 t)))) : sProp 𝕄) := by
  rw [afterV_5]
  iintro H
  iexists (st0_5 t).view.read (Elt Ideal) f
  rw [cut5_of c t _ _ h]
  iapply (owns_intro c (st0_5 t) f)
  iexact H
theorem owns6_of (c : Dev nD) (t : Fin cfg0.N) (f : Bf (F := Ideal) c (st0_6 t)) (h : ∀ y : S1536x256.Idx, (y 1 : ℕ) < wid t → (st0_6 t).view.read (Elt Ideal) f y = aft6 m c t.val y) :
    pt c (st0_6 t) f ⊢ (iprop(∃ d, owns (c : Thread nD τ) (st0_6 t) fullShare ((cfg0.win 6).fill (cfg0.grid.coords t) d ((cfg0.win 6).cut (cfg0.grid.coords t) ((datsV m 0 c).after 6 t)))) : sProp 𝕄) := by
  rw [afterV_6]
  iintro H
  iexists (st0_6 t).view.read (Elt Ideal) f
  rw [cut6_of c t _ _ h]
  iapply (owns_intro c (st0_6 t) f)
  iexact H

set_option maxHeartbeats 2000000 in
/-- The body at a point: the first, the last and the others by their runs. -/
theorem sound_bodyV (c : Dev nD) (t : Fin cfg0.N) :
    bodyPreV m c t ⊢ wp Idealize.ShloMosaic.frame (wpE (defs₀ (F := Ideal)) Variants.none c none) Set.univ (bodyAt0 t) (fun _ => bodyPostV m c t) := by
  have htlt : t.val < 23 := t.isLt
  unfold bodyPreV bodyPostV bodyAt0
  rw [cutV_2, cutV_3, cutV_4]
  simp only [beforeV_0, beforeV_1, beforeV_2, beforeV_3, beforeV_4, afterV_0, afterV_1, afterV_7, afterV_8]
  rw [show (datsV m 0 c).Φ t.succ = PhiV m c (t.val + 1) from rfl,
    show (datsV m 0 c).Φ t.castSucc = PhiV m c t.val from rfl]
  unfold Dat.owesAt Pipeline.owesWithin
  rw [show (datsV m 0 c).owed t.castSucc = 0 from rfl, show (datsV m 0 c).owed t.succ = 0 from rfl]
  by_cases ht0 : t.val = 0
  · unfold PhiV owns
    iintro ⟨⟨⟨%fx, %hx, HX⟩, ⟨%fa, %ha, HA⟩, HD, HS, Hq, HH, ⟨%fo, -, HO⟩⟩, ⟨%W, -, HW⟩, ⟨%d0, %f1, %e1, H1⟩, ⟨%d1, %f2, %e2, H2⟩, ⟨%d2, %f3, %e3, H3⟩, ⟨%d3, %f5, %e5, H5⟩, ⟨%d4, %f6, %e6, H6⟩, ⟨%X7, %f7, %e7, H7⟩, ⟨%X8, %f8, %e8, H8⟩, ⟨%X9, %f9, %e9, H9⟩, ⟨%X10, %f10, %e10, H10⟩⟩
    have h1 := (cond1_iff t).2 ht0
    have h2 := (cond2_iff t).2 (by omega)
    have h3 : k0_cond3 (grid0.coords t) ≠ 1#1 := fun h => by have := (cond3_iff t).1 h; omega
    have hw : 256 = wid t := by unfold wid; rw [if_neg (by omega)]
    have HD' := holdsD_of m c t e3 256 hw
    have HW' := holdsW_of m c t e5 256 hw
    have HM' := holdsM_of m c t e6 256 hw
    rw [ht0] at HD' HW' HM'
    have Hs1 := sca_of c (f1 := f1) (fun y => (congrFun e1 y).trans (iblk_0 m c t y))
    have hsel : BitVec.ofNat 32 (grid0.coords t 0) = BitVec.ofNat 32 0 := by rw [coord_val, ht0]
    obtain ⟨R, hR⟩ : ∃ R, R = runA c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) f1 f2 f3 f5 f6 (V m c main_v3) fo := ⟨_, rfl⟩
    have p5 : R.1.1 = _ := (congrArg (fun R => R.1.1) hR).trans (mgo_A ..)
    have p6 : R.1.2.1 = _ := (congrArg (fun R => R.1.2.1) hR).trans (codes_A ..)
    have p7 : R.1.2.2.1 = _ := (congrArg (fun R => R.1.2.2.1) hR).trans (scales_A ..)
    have p8 : R.1.2.2.2.1 = _ := (congrArg (fun R => R.1.2.2.2.1) hR).trans (amax_A ..)
    have px : R.1.2.2.2.2.1 = _ := (congrArg (fun R => R.1.2.2.2.2.1) hR).trans (xs_A ..)
    have pa : R.1.2.2.2.2.2 = _ := (congrArg (fun R => R.1.2.2.2.2.2) hR).trans (acc_A ..)
    clear hR
    have q5 : ∀ g (y : S2880x256.Idx), (y 1 : ℕ) < wid t → (st0_5 t).view.read (Elt Ideal) ((st0_5 t).view.writes (Elt Ideal) g R.1.1) y = aft5 m c t.val y := fun g y hy => by
      rw [p5, ht0]; exact mgo_A_val HD' (holdsX m c) HM' Hs1 g y
    have q6 : ∀ g (y : S1536x256.Idx), (y 1 : ℕ) < wid t → (st0_6 t).view.read (Elt Ideal) ((st0_6 t).view.writes (Elt Ideal) g R.1.2.1) y = aft6 m c t.val y := fun g y hy => by
      rw [p6, ht0]; exact read_codes2 HD' _ g y
    have q7 : ∀ g y, (st0_7 t).view.read (Elt Ideal) ((st0_7 t).view.writes (Elt Ideal) g R.1.2.2.1) y = aft7 m c t.val y := fun g y => by
      rw [p7, ht0]; exact scales_A_val HD' _ hsel g _ y
    have q8 : ∀ g y, (st0_8 t).view.read (Elt Ideal) ((st0_8 t).view.writes (Elt Ideal) g R.1.2.2.2.1) y = aft8 m c t.val y := fun g y => by
      rw [p8, ht0]; exact amax_A_val HD' g _ y
    have qx : ∀ g y, xS.view.read (Elt Ideal) (xS.view.writes (Elt Ideal) g R.1.2.2.2.2.1) y = Xn m c (y 0) (y 1) := fun g y => by
      rw [px]; exact read_xsP (holdsX m c) _ g y
    have qa : ∀ g y, accS.view.read (Elt Ideal) (accS.view.writes (Elt Ideal) g R.1.2.2.2.2.2) y = accW (Dn m c) (Wn m c) (min (256 * (t.val + 1)) 5760) y := fun g y => by
      rw [pa, ht0]; exact acc_A_val HD' HW' g y
    clear p5 p6 p7 p8 px pa
    iapply (R.2 W _)
    isplitl [H1]; · iexact H1
    isplitl [H2]; · iexact H2
    isplitl [H3]; · iexact H3
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HX]; · iexists _; iexact HX
    isplitl [HA]; · iexists _; iexact HA
    isplitl [HD]; · iexact HD
    isplitl [HS]; · iexact HS
    isplitl [HH]; · iexact HH
    isplitl [HO]; · iexact HO
    isplitl [Hq]; · iexact Hq
    isplitl [HW]; · iexact HW
    iintro ⟨H1, H2, H3, H5, H6, ⟨%g7, H7⟩, ⟨%g8, H8⟩, ⟨%g9, H9⟩, ⟨%g10, H10⟩, ⟨%gx, HX⟩, ⟨%ga, HA⟩, HD, HS, HH, HO, Hq, ⟨%W', HW⟩⟩
    isplitl [HX HA HD HS Hq HH HO]
    · isplitl [HX]
      · iexists _; isplitr; swap
        · iexact HX
        ipureintro; exact fun _ => qx gx
      isplitl [HA]
      · iexists _; isplitr; swap
        · iexact HA
        ipureintro; exact fun _ => qa ga
      isplitl [HD]; · iexact HD
      isplitl [HS]; · iexact HS
      isplitl [Hq]; · iexact Hq
      isplitl [HH]; · iexact HH
      iexists fo; isplitr
      · ipureintro; exact fun h => absurd h (by omega)
      iexact HO
    isplitl [HW]
    · iexists W'; isplitr
      · ipureintro; exact fun _ _ => Or.inl trivial
      iexact HW
    isplitl [H1]
    · iexists f1; isplitr
      · ipureintro; exact e1
      iexact H1
    isplitl [H2]
    · iexists f2; isplitr
      · ipureintro; exact e2
      iexact H2
    isplitl [H3]
    · iexists d2, f3; isplitr
      · ipureintro; exact e3
      iexact H3
    isplitl [H5]
    · iexists d3, f5; isplitr
      · ipureintro; exact e5
      iexact H5
    isplitl [H6]
    · iexists d4, f6; isplitr
      · ipureintro; exact e6
      iexact H6
    isplitl [H7]
    · iapply (owns5_of m c t _ (q5 g7)); iexact H7
    isplitl [H8]
    · iapply (owns6_of m c t _ (q6 g8)); iexact H8
    isplitl [H9]
    · iexists _; isplitr; swap
      · iexact H9
      ipureintro; exact funext (q7 g9)
    iexists _; isplitr; swap; · iexact H10
    ipureintro; exact funext (q8 g10)
  · by_cases ht22 : t.val = 22
    · simp only [beforeV_7 m c t ht0, beforeV_8 m c t ht0]
      unfold PhiV owns
      iintro ⟨⟨⟨%fx, %hx, HX⟩, ⟨%fa, %ha, HA⟩, HD, HS, Hq, HH, ⟨%fo, -, HO⟩⟩, ⟨%W, -, HW⟩, ⟨%d0, %f1, %e1, H1⟩, ⟨%d1, %f2, %e2, H2⟩, ⟨%d2, %f3, %e3, H3⟩, ⟨%d3, %f5, %e5, H5⟩, ⟨%d4, %f6, %e6, H6⟩, ⟨%X7, %f7, %e7, H7⟩, ⟨%X8, %f8, %e8, H8⟩, ⟨%X9, %f9, %e9, H9⟩, ⟨%X10, %f10, %e10, H10⟩⟩
      have h1 : k0_cond1 (grid0.coords t) ≠ 1#1 := fun h => ht0 ((cond1_iff t).1 h)
      have h2 : k0_cond2 (grid0.coords t) ≠ 1#1 := fun h => (cond2_iff t).1 h ht22
      have h3 := (cond3_iff t).2 ht22
      have hw : 128 = wid t := by unfold wid; rw [if_pos ht22]
      have HD' := holdsD_of m c t e3 128 hw
      have HW' := holdsW_of m c t e5 128 hw
      have HM' := holdsM_of m c t e6 128 hw
      have Hs1 := sca_of c (f1 := f1) (fun y => (congrFun e1 y).trans (iblk_0 m c t y))
      have hsel : BitVec.ofNat 32 (grid0.coords t 0) = BitVec.ofNat 32 t.val := by rw [coord_val]
      have Hx := hx ht0
      have Ha : ∀ y, accS.view.read (Elt Ideal) fa y = accW (Dn m c) (Wn m c) (256 * t.val) y := fun y => by
        rw [ha ht0 y, show min (256 * t.val) 5760 = 256 * t.val by omega]
      have H9' : ∀ y, (st0_7 t).view.read (Elt Ideal) f9 y = scaleB (Dn m c) (2 * t.val) y := fun y => by
        rw [e9]; unfold aft7; rw [show t.val - 1 + 1 = t.val by omega]
      have H10' : ∀ y, (st0_8 t).view.read (Elt Ideal) f10 y = amaxN (Dn m c) (2 * t.val) := fun y => by
        rw [e10]; unfold aft8; rw [show min (2 * (t.val - 1 + 1)) 45 = 2 * t.val by omega]
      have Hs2 := sca_of c (f1 := f2) (fun y => (congrFun e2 y).trans (iblk_1 m c t y))
      obtain ⟨R, hR⟩ : ∃ R, R = runC c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) f1 f2 f3 f5 f6 f9 f10 fx fa (V m c main_v3) fo := ⟨_, rfl⟩
      have p5 : R.1.1 = _ := (congrArg (fun R => R.1.1) hR).trans (mgo_C ..)
      have p6 : R.1.2.1 = _ := (congrArg (fun R => R.1.2.1) hR).trans (codes_C ..)
      have p7 : R.1.2.2.1 = _ := (congrArg (fun R => R.1.2.2.1) hR).trans (scales_C ..)
      have p8 : R.1.2.2.2.1 = _ := (congrArg (fun R => R.1.2.2.2.1) hR).trans (amax_C ..)
      have pa : R.1.2.2.2.2.1 = _ := (congrArg (fun R => R.1.2.2.2.2.1) hR).trans (acc_C ..)
      have po : ∀ fs, R.1.2.2.2.2.2 fs = _ := fun fs => (congrArg (fun R => R.1.2.2.2.2.2 fs) hR).trans (dx_C ..)
      clear hR
      have q5 : ∀ g (y : S2880x256.Idx), (y 1 : ℕ) < wid t → (st0_5 t).view.read (Elt Ideal) ((st0_5 t).view.writes (Elt Ideal) g R.1.1) y = aft5 m c t.val y := fun g y hy => by
        rw [p5]; exact mgo_C_val HD' Hx HM' Hs1 g y (hw ▸ hy)
      have q6 : ∀ g (y : S1536x256.Idx), (y 1 : ℕ) < wid t → (st0_6 t).view.read (Elt Ideal) ((st0_6 t).view.writes (Elt Ideal) g R.1.2.1) y = aft6 m c t.val y := fun g y hy => by
        rw [p6]; exact read_codes1 HD' _ g y (hw ▸ hy)
      have q7 : ∀ g y, (st0_7 t).view.read (Elt Ideal) ((st0_7 t).view.writes (Elt Ideal) g R.1.2.2.1) y = aft7 m c t.val y := fun g y => by
        rw [p7]; exact scales_C_val HD' ht22 _ hsel H9' g y
      have q8 : ∀ g y, (st0_8 t).view.read (Elt Ideal) ((st0_8 t).view.writes (Elt Ideal) g R.1.2.2.2.1) y = aft8 m c t.val y := fun g y => by
        rw [p8]; refine (amax_C_val HD' H10' g y).trans ?_
        unfold aft8; rw [show 2 * t.val + 1 = min (2 * (t.val + 1)) 45 by omega]
      have qo : ∀ fs y, View.read (Elt Ideal) dxH.view (R.1.2.2.2.2.2 fs) y = dxG m c y := fun fs y => by
        rw [po]
        refine (dxW_val _ _ fs fo (A := fun d p => accN ksc kin (Dn m c) (Wn m c) 5760 d p) (fun y => ?_) 4 le_rfl y (y 0).isLt).trans ?_
        · rw [canon_accC Ha HD' HW', ht22]; rfl
        · rw [Hs2]; rfl
      have qa : ∀ y, accS.view.read (Elt Ideal) (accS.view.writes (Elt Ideal) fa R.1.2.2.2.2.1) y = accW (Dn m c) (Wn m c) (min (256 * (t.val + 1)) 5760) y := fun y => by
        rw [pa]; refine (read_accC Ha HD' HW' y).trans ?_
        rw [show 256 * t.val + 128 = min (256 * (t.val + 1)) 5760 by omega]
      clear p5 p6 p7 p8 pa po
      iapply (R.2 W _)
      isplitl [H1]; · iexact H1
      isplitl [H2]; · iexact H2
      isplitl [H3]; · iexact H3
      isplitl [H5]; · iexact H5
      isplitl [H6]; · iexact H6
      isplitl [H7]; · iexists _; iexact H7
      isplitl [H8]; · iexists _; iexact H8
      isplitl [H9]; · iexact H9
      isplitl [H10]; · iexact H10
      isplitl [HX]; · iexact HX
      isplitl [HA]; · iexact HA
      isplitl [HD]; · iexact HD
      isplitl [HS]; · iexact HS
      isplitl [HH]; · iexact HH
      isplitl [HO]; · iexact HO
      isplitl [Hq]; · iexact Hq
      isplitl [HW]; · iexact HW
      iintro ⟨H1, H2, H3, H5, H6, ⟨%g7, H7⟩, ⟨%g8, H8⟩, H9, H10, HX, HA, HD, HS, HH, ⟨%go, HO⟩, Hq, ⟨%W', HW⟩⟩
      isplitl [HX HA HD HS Hq HH HO]
      · isplitl [HX]
        · iexists fx; isplitr
          · ipureintro; exact fun _ => Hx
          iexact HX
        isplitl [HA]
        · iexists _; isplitr; swap
          · iexact HA
          ipureintro; exact fun _ => qa
        isplitl [HD]; · iexact HD
        isplitl [HS]; · iexact HS
        isplitl [Hq]; · iexact Hq
        isplitl [HH]; · iexact HH
        iexists _; isplitr; swap
        · iexact HO
        ipureintro; exact fun _ => qo go
      isplitl [HW]
      · iexists W'; isplitr
        · ipureintro; exact fun _ _ => Or.inl trivial
        iexact HW
      isplitl [H1]
      · iexists f1; isplitr
        · ipureintro; exact e1
        iexact H1
      isplitl [H2]
      · iexists f2; isplitr
        · ipureintro; exact e2
        iexact H2
      isplitl [H3]
      · iexists d2, f3; isplitr
        · ipureintro; exact e3
        iexact H3
      isplitl [H5]
      · iexists d3, f5; isplitr
        · ipureintro; exact e5
        iexact H5
      isplitl [H6]
      · iexists d4, f6; isplitr
        · ipureintro; exact e6
        iexact H6
      isplitl [H7]
      · iapply (owns5_of m c t _ (q5 g7)); iexact H7
      isplitl [H8]
      · iapply (owns6_of m c t _ (q6 g8)); iexact H8
      isplitl [H9]
      · iexists _; isplitr; swap
        · iexact H9
        ipureintro; exact funext (q7 f9)
      iexists _; isplitr; swap; · iexact H10
      ipureintro; exact funext (q8 f10)
    · simp only [beforeV_7 m c t ht0, beforeV_8 m c t ht0]
      unfold PhiV owns
      iintro ⟨⟨⟨%fx, %hx, HX⟩, ⟨%fa, %ha, HA⟩, HD, HS, Hq, HH, ⟨%fo, -, HO⟩⟩, ⟨%W, -, HW⟩, ⟨%d0, %f1, %e1, H1⟩, ⟨%d1, %f2, %e2, H2⟩, ⟨%d2, %f3, %e3, H3⟩, ⟨%d3, %f5, %e5, H5⟩, ⟨%d4, %f6, %e6, H6⟩, ⟨%X7, %f7, %e7, H7⟩, ⟨%X8, %f8, %e8, H8⟩, ⟨%X9, %f9, %e9, H9⟩, ⟨%X10, %f10, %e10, H10⟩⟩
      have h1 : k0_cond1 (grid0.coords t) ≠ 1#1 := fun h => ht0 ((cond1_iff t).1 h)
      have h2 := (cond2_iff t).2 ht22
      have h3 : k0_cond3 (grid0.coords t) ≠ 1#1 := fun h => ht22 ((cond3_iff t).1 h)
      have hw : 256 = wid t := by unfold wid; rw [if_neg ht22]
      have HD' := holdsD_of m c t e3 256 hw
      have HW' := holdsW_of m c t e5 256 hw
      have HM' := holdsM_of m c t e6 256 hw
      have Hs1 := sca_of c (f1 := f1) (fun y => (congrFun e1 y).trans (iblk_0 m c t y))
      have hsel : BitVec.ofNat 32 (grid0.coords t 0) = BitVec.ofNat 32 t.val := by rw [coord_val]
      have Hx := hx ht0
      have Ha : ∀ y, accS.view.read (Elt Ideal) fa y = accW (Dn m c) (Wn m c) (256 * t.val) y := fun y => by
        rw [ha ht0 y, show min (256 * t.val) 5760 = 256 * t.val by omega]
      have H9' : ∀ y, (st0_7 t).view.read (Elt Ideal) f9 y = scaleB (Dn m c) (2 * t.val) y := fun y => by
        rw [e9]; unfold aft7; rw [show t.val - 1 + 1 = t.val by omega]
      have H10' : ∀ y, (st0_8 t).view.read (Elt Ideal) f10 y = amaxN (Dn m c) (2 * t.val) := fun y => by
        rw [e10]; unfold aft8; rw [show min (2 * (t.val - 1 + 1)) 45 = 2 * t.val by omega]
      obtain ⟨R, hR⟩ : ∃ R, R = runB c (grid0.coords t) h1 h2 h3 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) f1 f2 f3 f5 f6 f9 f10 fx fa (V m c main_v3) fo := ⟨_, rfl⟩
      have p5 : R.1.1 = _ := (congrArg (fun R => R.1.1) hR).trans (mgo_B ..)
      have p6 : R.1.2.1 = _ := (congrArg (fun R => R.1.2.1) hR).trans (codes_B ..)
      have p7 : R.1.2.2.1 = _ := (congrArg (fun R => R.1.2.2.1) hR).trans (scales_B ..)
      have p8 : R.1.2.2.2.1 = _ := (congrArg (fun R => R.1.2.2.2.1) hR).trans (amax_B ..)
      have pa : R.1.2.2.2.2 = _ := (congrArg (fun R => R.1.2.2.2.2) hR).trans (acc_B ..)
      clear hR
      have q5 : ∀ g (y : S2880x256.Idx), (y 1 : ℕ) < wid t → (st0_5 t).view.read (Elt Ideal) ((st0_5 t).view.writes (Elt Ideal) g R.1.1) y = aft5 m c t.val y := fun g y hy => by
        rw [p5]; exact mgo_B_val HD' Hx HM' Hs1 g y
      have q6 : ∀ g (y : S1536x256.Idx), (y 1 : ℕ) < wid t → (st0_6 t).view.read (Elt Ideal) ((st0_6 t).view.writes (Elt Ideal) g R.1.2.1) y = aft6 m c t.val y := fun g y hy => by
        rw [p6]; exact read_codes2 HD' _ g y
      have q7 : ∀ g y, (st0_7 t).view.read (Elt Ideal) ((st0_7 t).view.writes (Elt Ideal) g R.1.2.2.1) y = aft7 m c t.val y := fun g y => by
        rw [p7]; exact scales_B_val HD' htlt _ hsel H9' g y
      have q8 : ∀ g y, (st0_8 t).view.read (Elt Ideal) ((st0_8 t).view.writes (Elt Ideal) g R.1.2.2.2.1) y = aft8 m c t.val y := fun g y => by
        rw [p8]; refine (amax_B_val HD' H10' g y).trans ?_
        unfold aft8; rw [show 2 * t.val + 2 = min (2 * (t.val + 1)) 45 by omega]
      have qa : ∀ y, accS.view.read (Elt Ideal) (accS.view.writes (Elt Ideal) fa R.1.2.2.2.2) y = accW (Dn m c) (Wn m c) (min (256 * (t.val + 1)) 5760) y := fun y => by
        rw [pa]; refine (read_accB Ha HD' HW' y).trans ?_
        rw [show 256 * t.val + 256 = min (256 * (t.val + 1)) 5760 by omega]
      clear p5 p6 p7 p8 pa
      iapply (R.2 W _)
      isplitl [H1]; · iexact H1
      isplitl [H2]; · iexact H2
      isplitl [H3]; · iexact H3
      isplitl [H5]; · iexact H5
      isplitl [H6]; · iexact H6
      isplitl [H7]; · iexists _; iexact H7
      isplitl [H8]; · iexists _; iexact H8
      isplitl [H9]; · iexact H9
      isplitl [H10]; · iexact H10
      isplitl [HX]; · iexact HX
      isplitl [HA]; · iexact HA
      isplitl [HD]; · iexact HD
      isplitl [HS]; · iexact HS
      isplitl [HH]; · iexact HH
      isplitl [HO]; · iexact HO
      isplitl [Hq]; · iexact Hq
      isplitl [HW]; · iexact HW
      iintro ⟨H1, H2, H3, H5, H6, ⟨%g7, H7⟩, ⟨%g8, H8⟩, H9, H10, HX, HA, HD, HS, HH, HO, Hq, ⟨%W', HW⟩⟩
      isplitl [HX HA HD HS Hq HH HO]
      · isplitl [HX]
        · iexists fx; isplitr
          · ipureintro; exact fun _ => Hx
          iexact HX
        isplitl [HA]
        · iexists _; isplitr; swap
          · iexact HA
          ipureintro; exact fun _ => qa
        isplitl [HD]; · iexact HD
        isplitl [HS]; · iexact HS
        isplitl [Hq]; · iexact Hq
        isplitl [HH]; · iexact HH
        iexists fo; isplitr
        · ipureintro; exact fun h => absurd h (by omega)
        iexact HO
      isplitl [HW]
      · iexists W'; isplitr
        · ipureintro; exact fun _ _ => Or.inl trivial
        iexact HW
      isplitl [H1]
      · iexists f1; isplitr
        · ipureintro; exact e1
        iexact H1
      isplitl [H2]
      · iexists f2; isplitr
        · ipureintro; exact e2
        iexact H2
      isplitl [H3]
      · iexists d2, f3; isplitr
        · ipureintro; exact e3
        iexact H3
      isplitl [H5]
      · iexists d3, f5; isplitr
        · ipureintro; exact e5
        iexact H5
      isplitl [H6]
      · iexists d4, f6; isplitr
        · ipureintro; exact e6
        iexact H6
      isplitl [H7]
      · iapply (owns5_of m c t _ (q5 g7)); iexact H7
      isplitl [H8]
      · iapply (owns6_of m c t _ (q6 g8)); iexact H8
      isplitl [H9]
      · iexists _; isplitr; swap
        · iexact H9
        ipureintro; exact funext (q7 f9)
      iexists _; isplitr; swap; · iexact H10
      ipureintro; exact funext (q8 f10)

theorem body_obligationV (c : Dev nD) : BodyObligationLoose (datsV m 0 c) (defs₀ (F := Ideal)) Variants.none () Set.univ := fun t => by
  rw [bigSep_W0, bigSep_W0, defs₀_row]
  have i5 : cfg0.idle 5 (cfg0.grid.coords t) = false := idle5 _
  have i7 : cfg0.idle 7 (cfg0.grid.coords t) = false := idle7 _
  refine triple_restated (sound_bodyV m c t) rfl .rfl fun _ => ?_
  rw [i5, i7]
  exact BIBase.Entails.rfl

/-! ## The launch -/

/-- The input gradient's array at the end. -/
def Gend (c : Dev nD) (b : Ref sig .tc) : Buf (Elt Ideal) ((c.tc : Thread nD τ).loc b) :=
  if h : b = main_v6_4 then h ▸ (dxG m c : S4x2880x384.Idx → EReal) else V m c b
theorem Gend_dx (c : Dev nD) : Gend m c main_v6_4 = (dxG m c : S4x2880x384.Idx → EReal) := by
  unfold Gend; rw [dif_pos rfl]

theorem PhiDRV0_eq (c : Dev nD) (G : (c : Dev nD) → (b : Ref sig .tc) → Buf (Elt Ideal) ((c.tc : Thread nD τ).loc b)) :
    (Pipeline.ΦDRV osem0 spec0 H0 R0 (V m) G c : sProp 𝕄)
      = iprop(iprop((∃ f, pt c xS f) ∗ (∃ f, pt c accS f) ∗ (∃ f, pt c dysS f) ∗ (∃ f, pt c stS f))
          ∗ sems0 c ∗ pt c xH (V m c main_v3) ∗ pt c dxH (G c main_v6_4)) := by
  unfold Pipeline.ΦDRV
  rw [scopedPts0_eq, ownSems00_eq, hbmPts0_eq, BI.bigSep_eq_bigSepL_of_eq [main_v6_4] (by decide) (by decide), pt_whole c main_v6_4]; rfl

theorem hinV (c : Dev nD) : Pipeline.ΦDRV osem0 spec0 H0 R0 (V m) (V m) c ⊢ (datsV m 0 c).Φ 0 := by
  rw [PhiDRV0_eq, show (datsV m 0 c).Φ 0 = PhiV m c 0 from rfl]
  unfold PhiV
  iintro ⟨⟨⟨%fx, HX⟩, ⟨%fa, HA⟩, HD, HS⟩, Hq, HH, HO⟩
  isplitl [HX]
  · iexists fx; isplitr
    · ipureintro; exact fun h => absurd rfl h
    iexact HX
  isplitl [HA]
  · iexists fa; isplitr
    · ipureintro; exact fun h => absurd rfl h
    iexact HA
  isplitl [HD]; · iexact HD
  isplitl [HS]; · iexact HS
  isplitl [Hq]; · iexact Hq
  isplitl [HH]; · iexact HH
  iexists _; isplitr; swap
  · iexact HO
  ipureintro; exact fun h => absurd h (by omega)

theorem houtV (c : Dev nD) : (datsV m 0 c).Φ (Fin.last cfg0.N) ⊢ Pipeline.ΦDRV osem0 spec0 H0 R0 (V m) (Gend m) c := by
  rw [PhiDRV0_eq, show (datsV m 0 c).Φ (Fin.last cfg0.N) = PhiV m c 23 from rfl]
  unfold PhiV
  iintro ⟨⟨%fx, -, HX⟩, ⟨%fa, -, HA⟩, HD, HS, Hq, HH, ⟨%fo, %ho, HO⟩⟩
  isplitl [HX HA HD HS]
  · isplitl [HX]; · iexists fx; iexact HX
    isplitl [HA]; · iexists fa; iexact HA
    isplitl [HD]; · iexact HD
    iexact HS
  isplitl [Hq]; · iexact Hq
  isplitl [HH]; · iexact HH
  rw [Gend_dx, ← (show fo = (dxG m c : S4x2880x384.Idx → EReal) from funext (ho rfl))]
  iexact HO

set_option backward.isDefEq.respectTransparency.types false in
/-- THE RUN: the arrays as the data say, the host's lines after the region on top of them. -/
theorem run_mainV : θ_run defs (onTc (τ := τ) (main (F := Ideal))) (s₀ m ρ)
    (fun r => (∀ c : Dev nD, (∀ w, r.2.mem ((spec0 w).arr.view.loc (c.tc : Thread nD τ)) = (datsV m 0 c).arrAt w cfg0.N)
      ∧ ∀ b ∈ Pipeline.restRefs sig spec0, r.2.mem ((c.tc : Thread nD τ).loc b)
          = StableHlo.after hostOps1 (Pipeline.withArrays spec0 c (Pipeline.withR (V0 m c) R0 c (Gend m c)) fun w => (datsV m 0 c).arrAt w cfg0.N) (Proc.devRef .tc b))
      ∧ r.2.sem = fun _ => 0) :=
  Pipeline.θ_run_frame_dmaR_aroundV (Q' := _) cfgs (datsV m) (0 : Fin 1) launch0 osem0 defs₀ Variants.none ownSemFacts0 H0 R0 H0_sub R0_sub m ρ main
    (hbody := body_obligationV m) (hshare := fun c => (datsV m 0 c).share_full fun _ => rfl)
    (howed := fun _ _ => rfl) (V₀ := V0 m) (opss := [hostOps1]) (hsub := sfx_sub) (hfresh := sfx_fresh) (hkeep := sfx_keeps)
    (G := Gend m) (hmain := hmainU m Variants.none) (hA := AV_eq m) (hin := hinV m) (hout := houtV m) (hQ' := fun r h => ⟨fun c => ⟨(h.1 c).1, fun b hb => (h.1 c).2 b hb⟩, h.2⟩)

end Cert.KernelIdeal.Hand

end
-- ==== Proof.Scale.lean ====
/-
  The exponent by counting powers of two is the exponent by the logarithm, so the two ways to a block's scale and to
  its inverse agree where the precondition holds.
-/
module

public import proofs.«01_k».proof.Proof.TileVal
public import Mathlib.Analysis.SpecialFunctions.Pow.Real

@[expose] public section

set_option maxRecDepth 16384

noncomputable section

namespace Cert.KernelIdeal.Hand

open Cert.Spec
open Idealize.ShloMosaic

/-- The f32 pattern with exponent field `k` and nothing else: its three parts. -/
theorem pat_parts : ∀ k : Fin 256,
    ((IntOp.shli ArithUnit.vector (BitVec.ofNat 32 k) 23#32).extractLsb' 31 1 == 1#1) = false
    ∧ ((IntOp.shli ArithUnit.vector (BitVec.ofNat 32 k) 23#32).extractLsb' 23 8).toNat = k
    ∧ ((IntOp.shli ArithUnit.vector (BitVec.ofNat 32 k) 23#32).extractLsb' 0 23).toNat = 0 := by decide +kernel

/-- A pattern with a positive sign, exponent field `k` and no fraction is a power of two, -/
theorem ofBits_pow (b : BitVec 32) (k : ℕ) (h1 : 1 ≤ k) (h2 : k ≤ 254) (a : (b.extractLsb' 31 1 == 1#1) = false)
    (e : (b.extractLsb' 23 8).toNat = k) (d : (b.extractLsb' 0 23).toNat = 0) :
    Ideal.ofBits .f32 b = (((2 : ℝ) ^ ((k : ℤ) - 127) : ℝ) : EReal) := by
  unfold Ideal.ofBits Ideal.ieee
  simp only [Nat.reduceAdd, a, e, d]
  rw [if_neg (by norm_num; omega), if_neg (by omega)]
  congr 1
  simp only [Bool.false_eq_true, if_false, one_mul, Nat.add_zero]
  rw [show ((k : ℤ) - 127) = 23 + ((k : ℤ) - 127 - 23) by ring, zpow_add₀ (by norm_num)]
  norm_num
/-- or, with every bit of the field set, infinite. -/
theorem ofBits_top (b : BitVec 32) (a : (b.extractLsb' 31 1 == 1#1) = false)
    (e : (b.extractLsb' 23 8).toNat = 255) (d : (b.extractLsb' 0 23).toNat = 0) :
    Ideal.ofBits .f32 b = ⊤ := by
  unfold Ideal.ofBits Ideal.ieee
  simp only [Nat.reduceAdd, a, e, d]
  norm_num

theorem pat_pow (k : ℕ) (h1 : 1 ≤ k) (h2 : k ≤ 254) :
    Ideal.ofBits .f32 (IntOp.shli ArithUnit.vector (BitVec.ofNat 32 k) 23#32) = (((2 : ℝ) ^ ((k : ℤ) - 127) : ℝ) : EReal) :=
  have h := pat_parts ⟨k, by omega⟩
  ofBits_pow _ k h1 h2 h.1 h.2.1 h.2.2
theorem pat_top : Ideal.ofBits .f32 (IntOp.shli ArithUnit.vector (BitVec.ofNat 32 255) 23#32) = ⊤ :=
  have h := pat_parts ⟨255, by omega⟩
  ofBits_top _ h.1 h.2.1 h.2.2

theorem fold_count (p : Fin 255 → Prop) [DecidablePred p] (s : Finset (Fin 255)) :
    Finset.fold IntOp.addi (0#32) (fun k => BitVec.setWidth 32 (BitVec.ofBool (decide (p k)))) s = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (fun hm => ha (Finset.mem_filter.mp hm).1)]
      simp only [h, decide_true]
      show _ + _ = _
      rw [Nat.add_comm, BitVec.ofNat_add]; rfl
    · rw [if_neg h]
      simp only [h, decide_false]
      show _ + _ = _
      rw [show BitVec.setWidth 32 (BitVec.ofBool false) = 0#32 from rfl, BitVec.zero_add]

theorem card_lt (m : ℕ) (h : m ≤ 255) : (Finset.univ.filter fun k : Fin 255 => (k : ℕ) < m).card = m := by
  rw [Fin.card_filter_val_lt]; omega

theorem kfield_eq (x : EReal) (m : ℕ) (hm : m ≤ 255)
    (h : ∀ k : Fin 255, Ideal.ofBits .f32 (IntOp.shli ArithUnit.vector (BitVec.ofNat 32 (k + 1)) 23#32) ≤ x ↔ (k : ℕ) < m) :
    kfield x = BitVec.ofNat 32 m := by
  have e : ∀ k : Fin 255, IntOp.addi (BitVec.ofNat 32 (k : ℕ)) 1#32 = BitVec.ofNat 32 ((k : ℕ) + 1) := fun k => (BitVec.ofNat_add _ _).symm
  unfold kfield
  simp only [e, h]
  rw [fold_count, card_lt m hm]

/-- A positive real has its powers of two counted: with `2 ^ n ≤ x < 2 ^ (n + 1)`, the first `n + 127`. -/
theorem kfield_real (x : ℝ) (n : ℤ) (h1 : (2 : ℝ) ^ n ≤ x) (h2 : x < (2 : ℝ) ^ (n + 1)) (hn : -126 ≤ n) (hn' : n ≤ 112) :
    kfield (x : EReal) = BitVec.ofNat 32 (n + 127).toNat := by
  refine kfield_eq _ _ (by omega) fun k => ?_
  by_cases hk : (k : ℕ) + 1 ≤ 254
  · rw [pat_pow _ (by omega) hk, EReal.coe_le_coe_iff]
    constructor
    · intro h
      have := (zpow_lt_zpow_iff_right₀ (a := (2 : ℝ)) (by norm_num)).mp (lt_of_le_of_lt h h2)
      push_cast at this
      omega
    · intro h
      refine le_trans ((zpow_le_zpow_iff_right₀ (a := (2 : ℝ)) (by norm_num)).mpr ?_) h1
      push_cast
      omega
  · rw [show (k : ℕ) + 1 = 255 by have := k.isLt; omega, pat_top]
    constructor
    · intro h; exact absurd (top_le_iff.mp h) (EReal.coe_ne_top _)
    · intro h; have := k.isLt; omega

theorem kfield_zero : kfield 0 = 0#32 := by
  refine kfield_eq _ 0 (by omega) fun k => ?_
  refine iff_of_false (not_le.mpr ?_) (by omega)
  by_cases hk : (k : ℕ) + 1 ≤ 254
  · rw [pat_pow _ (by omega) hk]
    exact_mod_cast zpow_pos (by norm_num : (0 : ℝ) < 2) _
  · rw [show (k : ℕ) + 1 = 255 by have := k.isLt; omega, pat_top]
    exact EReal.zero_lt_top

theorem kexp_of_field (a : EReal) (n : ℤ) (hn : -126 ≤ n) (hn' : n ≤ 112)
    (h : kfield (a * Ideal.ofBits FTy.f32 932333861#32) = BitVec.ofNat 32 (n + 127).toNat) :
    IntOp.addi (kexp a) 127#32 = BitVec.ofNat 32 (n + 128).toNat ∧ IntOp.subi 127#32 (kexp a) = BitVec.ofNat 32 (126 - n).toNat := by
  unfold kexp
  rw [h]
  obtain ⟨m, rfl⟩ : ∃ m : ℕ, n = (m : ℤ) - 126 := ⟨(n + 126).toNat, by omega⟩
  have hm : m < 239 := by omega
  rw [show ((m : ℤ) - 126 + 127).toNat = m + 1 by omega, show ((m : ℤ) - 126 + 128).toNat = m + 2 by omega, show (126 - ((m : ℤ) - 126)).toNat = 252 - m by omega]
  have key : ∀ m : Fin 239, (IntOp.addi (Scalar.select (IntOp.ori (IntOp.cmpi CmpIPredicate.eq (BitVec.ofNat 32 (m + 1)) 0#32)
      (IntOp.cmpi CmpIPredicate.eq (BitVec.ofNat 32 (m + 1)) 255#32)) (0#32) (IntOp.subi (BitVec.ofNat 32 (m + 1)) 126#32)) 127#32 = BitVec.ofNat 32 (m + 2))
      ∧ IntOp.subi 127#32 (Scalar.select (IntOp.ori (IntOp.cmpi CmpIPredicate.eq (BitVec.ofNat 32 (m + 1)) 0#32)
      (IntOp.cmpi CmpIPredicate.eq (BitVec.ofNat 32 (m + 1)) 255#32)) (0#32) (IntOp.subi (BitVec.ofNat 32 (m + 1)) 126#32)) = BitVec.ofNat 32 (252 - m) := by decide +kernel
  exact key ⟨m, hm⟩

theorem c_val : Ideal.ofBits FTy.f32 932333861#32 = ((9586981 * (2 : ℝ) ^ (-39 : ℤ) : ℝ) : EReal) := by
  simp [Ideal.ofBits, Ideal.ieee]
theorem two_val : Ideal.ofBits FTy.f32 0x40000000#32 = ((2 : ℝ) : EReal) := by
  rw [ofBits_pow _ 128 (by norm_num) (by norm_num) (by decide) (by decide) (by decide)]; norm_num
theorem lo_val : Ideal.ofBits FTy.f32 0x00800000#32 = (((2 : ℝ) ^ (-126 : ℤ) : ℝ) : EReal) := by
  rw [ofBits_pow _ 1 (by norm_num) (by norm_num) (by decide) (by decide) (by decide)]; norm_num
theorem hi_val : Ideal.ofBits FTy.f32 0x7F7FFFFF#32 = ((16777215 * (2 : ℝ) ^ (104 : ℤ) : ℝ) : EReal) := by
  simp [Ideal.ofBits, Ideal.ieee]

/-- A block's magnitude is in range: zero, or finite with a quotient that is a normal f32. -/
def InRange (a : EReal) : Prop := a = 0 ∨ (Ideal.ofBits FTy.f32 0x00800000#32 ≤ a * Ideal.ofBits FTy.f32 0x37924925#32 ∧ a ≤ Ideal.ofBits FTy.f32 0x7F7FFFFF#32)

theorem rexp_real (x : ℝ) (n : ℤ) (h0 : 0 < x) (h1 : (2 : ℝ) ^ n ≤ x) (h2 : x < (2 : ℝ) ^ (n + 1)) :
    Ideal.liftRound Int.floor (Ideal.div (Ideal.log (x : EReal)) (Ideal.log ((2 : ℝ) : EReal))) = ((n : ℝ) : EReal) := by
  have hl : 0 < Real.log 2 := Real.log_pos (by norm_num)
  have e1 : Ideal.log (x : EReal) = (Real.log x : EReal) := by
    show (if x ≤ 0 then ⊥ else (Real.log x : EReal)) = _; rw [if_neg (not_le.mpr h0)]
  have e2 : Ideal.log ((2 : ℝ) : EReal) = (Real.log 2 : EReal) := by
    show (if (2 : ℝ) ≤ 0 then ⊥ else (Real.log 2 : EReal)) = _; rw [if_neg (by norm_num)]
  rw [e1, e2]
  unfold Ideal.div
  rw [if_neg (by exact_mod_cast hl.ne'), ← EReal.coe_inv, ← EReal.coe_mul]
  show (((⌊Real.log x * (Real.log 2)⁻¹⌋ : ℤ) : ℝ) : EReal) = _
  congr 2
  rw [Int.floor_eq_iff, ← div_eq_mul_inv]
  constructor
  · rw [le_div_iff₀ hl, ← Real.log_zpow]
    exact Real.log_le_log (zpow_pos (by norm_num) _) h1
  · rw [div_lt_iff₀ hl]
    have : ((n : ℝ) + 1) * Real.log 2 = Real.log ((2 : ℝ) ^ (n + 1)) := by rw [Real.log_zpow]; push_cast; ring
    rw [this]
    exact Real.log_lt_log h0 h2

theorem pow_two_int (n : ℤ) : Ideal.pow ((2 : ℝ) : EReal) ((n : ℝ) : EReal) = (((2 : ℝ) ^ n : ℝ) : EReal) := by
  show ((Real.rpow 2 (n : ℝ) : ℝ) : EReal) = _
  congr 1
  exact Real.rpow_intCast 2 n

theorem scales_agree (a : EReal) (ha : InRange a) : ksc a = rsc a ∧ kin a = rin a := by
  unfold ksc kin rsc rin
  rw [two_val]
  rcases ha with rfl | ⟨hlo, hhi⟩
  · have hk : kexp 0 = 0#32 := by
      unfold kexp
      rw [zero_mul, kfield_zero]; decide
    rw [hk]
    unfold rexp
    rw [if_pos rfl]
    have p0 := pow_two_int 0
    have e := pat_pow 127 (by norm_num) (by norm_num)
    constructor
    · show Ideal.ofBits .f32 (IntOp.shli ArithUnit.vector (BitVec.ofNat 32 127) 23#32) = _
      rw [e]; simpa using p0.symm
    · show Ideal.ofBits .f32 (IntOp.shli ArithUnit.vector (BitVec.ofNat 32 127) 23#32) = _
      rw [e]; simpa using p0.symm
  · rw [lo_val] at hlo
    rw [hi_val] at hhi
    obtain ⟨r, rfl⟩ : ∃ r : ℝ, a = (r : EReal) := by
      induction a using EReal.rec with
      | bot =>
        rw [c_val, EReal.bot_mul_coe_of_pos (by positivity)] at hlo
        exact absurd (le_bot_iff.mp hlo) (EReal.coe_ne_bot _)
      | top => exact absurd (top_le_iff.mp hhi) (EReal.coe_ne_top _)
      | coe r => exact ⟨r, rfl⟩
    set x : ℝ := r * (9586981 * (2 : ℝ) ^ (-39 : ℤ)) with hx
    have hxE : (r : EReal) * Ideal.ofBits FTy.f32 932333861#32 = (x : EReal) := by rw [c_val, ← EReal.coe_mul]
    rw [show (0x37924925#32 : BitVec 32) = 932333861#32 from rfl, hxE] at hlo
    rw [EReal.coe_le_coe_iff] at hlo hhi
    have hx0 : 0 < x := lt_of_lt_of_le (zpow_pos (by norm_num) _) hlo
    have hr0 : 0 < r := (mul_pos_iff_of_pos_right (by positivity)).mp hx0
    obtain ⟨n, h1, h2⟩ : ∃ n : ℤ, (2 : ℝ) ^ n ≤ x ∧ x < (2 : ℝ) ^ (n + 1) :=
      exists_mem_Ico_zpow hx0 (by norm_num)
    have hn : -126 ≤ n := by
      by_contra hc
      have h3 : (2 : ℝ) ^ (n + 1) ≤ (2 : ℝ) ^ (-126 : ℤ) := (zpow_le_zpow_iff_right₀ (by norm_num)).mpr (by omega)
      linarith
    have hn' : n ≤ 112 := by
      by_contra hc
      have h3 : (2 : ℝ) ^ (113 : ℤ) ≤ (2 : ℝ) ^ n := (zpow_le_zpow_iff_right₀ (by norm_num)).mpr (by omega)
      have h4 : x ≤ 16777215 * (2 : ℝ) ^ (104 : ℤ) * (9586981 * (2 : ℝ) ^ (-39 : ℤ)) := by
        rw [hx]; exact mul_le_mul_of_nonneg_right hhi (by positivity)
      have h5 : 16777215 * (2 : ℝ) ^ (104 : ℤ) * (9586981 * (2 : ℝ) ^ (-39 : ℤ)) < (2 : ℝ) ^ (113 : ℤ) := by norm_num
      linarith
    obtain ⟨k1, k2⟩ := kexp_of_field (r : EReal) n hn hn' (by rw [hxE]; exact kfield_real x n h1 h2 hn hn')
    have hre : rexp (r : EReal) = (((n + 1 : ℤ) : ℝ) : EReal) := by
      unfold rexp
      rw [if_neg (by exact_mod_cast hr0.ne'), two_val, hxE, rexp_real x n hx0 h1 h2, Ideal.ofBits_one_f32]
      push_cast; rfl
    rw [k1, k2, hre, pow_two_int, pat_pow _ (by omega) (by omega), pat_pow _ (by omega) (by omega)]
    refine ⟨?_, ?_⟩
    · congr 2; omega
    · rw [← EReal.coe_neg, ← Int.cast_neg, pow_two_int]; congr 2; omega

end Cert.KernelIdeal.Hand
-- ==== Proof.Results.lean ====
/-
  The five results as functions of the arguments, over a scale and an inverse scale given as functions of a block's
  largest magnitude; two such pairs that agree on the blocks of the gradient give the same results.
-/
module

public import proofs.«01_k».proof.Proof.Spec
public import proofs.«01_k».proof.Proof.Scale

@[expose] public section

noncomputable section

namespace Cert.Spec

open Idealize.ShloMosaic Idealize.ShloMosaic.Pointwise

/-- The gradient by token and output dimension, -/
def Dof (a : (⟨3, ![4, 384, 5760]⟩ : Shape).Idx → EReal) (p o : ℕ) : EReal :=
  if h : p < 1536 ∧ o < 5760 then a (ix3 ⟨p / 384, by omega⟩ ⟨p % 384, by omega⟩ ⟨o, h.2⟩) else 0
/-- the activations by input dimension and token, -/
def Xof (a : (⟨3, ![4, 384, 2880]⟩ : Shape).Idx → EReal) (d p : ℕ) : EReal :=
  if h : d < 2880 ∧ p < 1536 then a (ix3 ⟨p / 384, by omega⟩ ⟨p % 384, by omega⟩ ⟨d, h.1⟩) else 0
/-- an array over output and input dimension, by input dimension and output dimension. -/
def Tof (a : (⟨2, ![5760, 2880]⟩ : Shape).Idx → EReal) (d o : ℕ) : EReal :=
  if h : d < 2880 ∧ o < 5760 then a (ix2 ⟨o, h.2⟩ ⟨d, h.1⟩) else 0

section
variable (ks ki : EReal → EReal) (a0 : (⟨3, ![4, 384, 5760]⟩ : Shape).Idx → EReal) (a1 : (⟨3, ![4, 384, 2880]⟩ : Shape).Idx → EReal)
  (a2 : EReal) (a3 : (⟨2, ![5760, 2880]⟩ : Shape).Idx → EReal) (a4 : EReal) (a5 : (⟨2, ![5760, 2880]⟩ : Shape).Idx → EReal)

/-- The input gradient, -/
def resDx (y : (⟨3, ![4, 384, 2880]⟩ : Shape).Idx) : EReal := accN ks ki (Dof a0) (Tof a3) 5760 (y 2) (384 * (y 0 : ℕ) + (y 1 : ℕ)) * a4
/-- the weight gradient added to what was there, -/
def resMg (y : (⟨2, ![5760, 2880]⟩ : Shape).Idx) : EReal := mgoN ks ki (Dof a0) (Xof a1) (Tof a5) a2 (y 1) (y 0)
/-- the largest magnitude, -/
def resAmax (y : (⟨0, ![]⟩ : Shape).Idx) : EReal := amaxN (Dof a0) 45
/-- the codes, -/
def resCodes (y : (⟨3, ![4, 384, 5760]⟩ : Shape).Idx) : EReal := codeN ki (Dof a0) (384 * (y 0 : ℕ) + (y 1 : ℕ)) (y 2)
/-- the scales. -/
def resScales (y : (⟨3, ![4, 3, 45]⟩ : Shape).Idx) : EReal := scaleN ks (Dof a0) (3 * (y 0 : ℕ) + (y 1 : ℕ)) (y 2)
end

section
variable {ks ki ks' ki' : EReal → EReal} {D : ℕ → ℕ → EReal}
  (h : ∀ k n, k < 12 → n < 45 → ks (tmax D k n) = ks' (tmax D k n) ∧ ki (tmax D k n) = ki' (tmax D k n))
include h

theorem codeN_congr {p o : ℕ} (hp : p < 1536) (ho : o < 5760) : codeN ki D p o = codeN ki' D p o := by
  unfold codeN; rw [(h _ _ (by omega) (by omega)).2]
theorem dysN_congr {p o : ℕ} (hp : p < 1536) (ho : o < 5760) : dysN ks ki D p o = dysN ks' ki' D p o := by
  unfold dysN; rw [codeN_congr h hp ho, (h _ _ (by omega) (by omega)).1]
theorem accN_congr (W : ℕ → ℕ → EReal) (d : ℕ) {p : ℕ} (hp : p < 1536) : accN ks ki D W 5760 d p = accN ks' ki' D W 5760 d p :=
  Finset.sum_congr rfl fun o ho => by rw [dysN_congr h hp (Finset.mem_range.mp ho)]
theorem mgoN_congr (X M : ℕ → ℕ → EReal) (s : EReal) (d : ℕ) {o : ℕ} (ho : o < 5760) : mgoN ks ki D X M s d o = mgoN ks' ki' D X M s d o := by
  unfold mgoN
  rw [Finset.sum_congr rfl fun p hp => by rw [dysN_congr h (Finset.mem_range.mp hp) ho]]
end

section
variable {ks ki ks' ki' : EReal → EReal} {a0 : (⟨3, ![4, 384, 5760]⟩ : Shape).Idx → EReal}
  (h : ∀ k n, k < 12 → n < 45 → ks (tmax (Dof a0) k n) = ks' (tmax (Dof a0) k n) ∧ ki (tmax (Dof a0) k n) = ki' (tmax (Dof a0) k n))
include h

theorem resDx_congr (a3 : (⟨2, ![5760, 2880]⟩ : Shape).Idx → EReal) (a4 : EReal) : resDx ks ki a0 a3 a4 = resDx ks' ki' a0 a3 a4 := by
  funext y
  have h0 : (y 0 : ℕ) < 4 := (y 0).isLt
  have h1 : (y 1 : ℕ) < 384 := (y 1).isLt
  unfold resDx; rw [accN_congr h _ _ (by omega)]
theorem resMg_congr (a1 : (⟨3, ![4, 384, 2880]⟩ : Shape).Idx → EReal) (a2 : EReal) (a5 : (⟨2, ![5760, 2880]⟩ : Shape).Idx → EReal) :
    resMg ks ki a0 a1 a2 a5 = resMg ks' ki' a0 a1 a2 a5 := by
  funext y
  have h0 : (y 0 : ℕ) < 5760 := (y 0).isLt
  unfold resMg; rw [mgoN_congr h _ _ _ _ h0]
theorem resCodes_congr : resCodes ki a0 = resCodes ki' a0 := by
  funext y
  have h0 : (y 0 : ℕ) < 4 := (y 0).isLt
  have h1 : (y 1 : ℕ) < 384 := (y 1).isLt
  have h2 : (y 2 : ℕ) < 5760 := (y 2).isLt
  unfold resCodes; rw [codeN_congr h (by omega) h2]
theorem resScales_congr : resScales ks a0 = resScales ks' a0 := by
  funext y
  have h0 : (y 0 : ℕ) < 4 := (y 0).isLt
  have h1 : (y 1 : ℕ) < 3 := (y 1).isLt
  have h2 : (y 2 : ℕ) < 45 := (y 2).isLt
  unfold resScales scaleN; rw [(h _ _ (by omega) h2).1]
end

end Cert.Spec

end
-- ==== Proof.Arrays.lean ====
/-
  What the kernel's arrays hold when the region is over, and what the region is given, at an index.
-/
module

public import proofs.«01_k».proof.Proof.Value
public import proofs.«01_k».proof.Proof.Results
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.Pointwise

variable (m : (ℓ : Loc nD τ sig) → Buf (Elt Ideal) ℓ) (c : Dev nD)

theorem arr5 : (datsV m 0 c).arrAt 5 cfg0.N
    = fun y : S2880x5760.Idx => mgoN ksc kin (Dn m c) (Xn m c) (Mn m c) (xsn m c) (y 0) (y 1) := by
  refine (datsV m 0 c).arrAt_eq_of_covers 5 _ (by decide +kernel) fun t hf y => ?_
  rw [afterV_5]
  unfold aft5
  blk_simp [(index_facts t).2.2.2.1]
  try rw [Nat.mul_comm]
theorem arr6 : (datsV m 0 c).arrAt 6 cfg0.N
    = fun y : S1536x5760.Idx => codeN kin (Dn m c) (y 0) (y 1) := by
  refine (datsV m 0 c).arrAt_eq_of_covers 6 _ (by decide +kernel) fun t hf y => ?_
  rw [afterV_6]
  unfold aft6 codeB
  blk_simp [(index_facts t).2.2.2.2]
  try rw [Nat.mul_comm]
theorem arr7 : (datsV m 0 c).arrAt 7 cfg0.N
    = fun y : S3x4x45.Idx => scaleN ksc (Dn m c) (3 * (y 1 : ℕ) + (y 0 : ℕ)) (y 2) := by
  refine (datsV m 0 c).arrAt_eq_of_after_last 7 ⟨22, by decide⟩ (by decide +kernel) _ fun j => ?_
  rw [afterV_7]
  unfold aft7 scaleB
  blk_simp
  have h2 : (j 2 : ℕ) < 45 := (j 2).isLt
  exact if_pos (by show (j 2 : ℕ) < 46; omega)
theorem arr8 : (datsV m 0 c).arrAt 8 cfg0.N = fun y : S1x1.Idx => amaxN (Dn m c) 45 := by
  refine (datsV m 0 c).arrAt_eq_of_after_last 8 ⟨22, by decide⟩ (by decide +kernel) _ fun j => ?_
  rw [afterV_8]
  unfold aft8
  blk_simp
  rfl

theorem V_v0 (y : S1.Idx) : (V m c main_v0 : S1.Idx → EReal) y = (m ((c.tc : Thread nD τ).loc main_arg2) : S_.Idx → EReal) ix0 := by
  show StableHlo.after hostOps0 (fun b => m (c, b)) _ _ = _
  unfold hostOps0
  after_reads_at
theorem V_v1 (y : S1.Idx) : (V m c main_v1 : S1.Idx → EReal) y = (m ((c.tc : Thread nD τ).loc main_arg4) : S_.Idx → EReal) ix0 := by
  show StableHlo.after hostOps0 (fun b => m (c, b)) _ _ = _
  unfold hostOps0
  after_reads_at
theorem V_v2 (p o) : (V m c main_v2 : S1536x5760.Idx → EReal) (ix2 p o) = (m ((c.tc : Thread nD τ).loc main_arg0) : S4x384x5760.Idx → EReal) (ix3 ⟨p / 384, by omega⟩ ⟨p % 384, by omega⟩ o) := by
  show StableHlo.after hostOps0 (fun b => m (c, b)) _ _ = _
  unfold hostOps0
  after_reads_at
theorem V_v3 (b d s) : (V m c main_v3 : S4x2880x384.Idx → EReal) (ix3 b d s) = (m ((c.tc : Thread nD τ).loc main_arg1) : S4x384x2880.Idx → EReal) (ix3 b s d) := by
  show StableHlo.after hostOps0 (fun b => m (c, b)) _ _ = _
  unfold hostOps0
  after_reads_at
theorem V_v4 (d o) : (V m c main_v4 : S2880x5760.Idx → EReal) (ix2 d o) = (m ((c.tc : Thread nD τ).loc main_arg3) : S5760x2880.Idx → EReal) (ix2 o d) := by
  show StableHlo.after hostOps0 (fun b => m (c, b)) _ _ = _
  unfold hostOps0
  after_reads_at
theorem V_v5 (d o) : (V m c main_v5 : S2880x5760.Idx → EReal) (ix2 d o) = (m ((c.tc : Thread nD τ).loc main_arg5) : S5760x2880.Idx → EReal) (ix2 o d) := by
  show StableHlo.after hostOps0 (fun b => m (c, b)) _ _ = _
  unfold hostOps0
  after_reads_at

/-- The arrays by row and column are the arguments'. -/
theorem Dn_eq : Dn m c = Dof (m ((c.tc : Thread nD τ).loc main_arg0)) := by
  funext p o
  unfold Dn Dof
  by_cases h : p < 1536 ∧ o < 5760
  · rw [dif_pos h, dif_pos h]; exact V_v2 m c _ _
  · rw [dif_neg h, dif_neg h]
theorem Xn_eq : Xn m c = Xof (m ((c.tc : Thread nD τ).loc main_arg1)) := by
  funext d p
  unfold Xn Xof
  by_cases h : d < 2880 ∧ p < 1536
  · rw [dif_pos h, dif_pos h]; exact V_v3 m c _ _ _
  · rw [dif_neg h, dif_neg h]
theorem Wn_eq : Wn m c = Tof (m ((c.tc : Thread nD τ).loc main_arg3)) := by
  funext d o
  unfold Wn Tof
  by_cases h : d < 2880 ∧ o < 5760
  · rw [dif_pos h, dif_pos h]; exact V_v4 m c _ _
  · rw [dif_neg h, dif_neg h]
theorem Mn_eq : Mn m c = Tof (m ((c.tc : Thread nD τ).loc main_arg5)) := by
  funext d o
  unfold Mn Tof
  by_cases h : d < 2880 ∧ o < 5760
  · rw [dif_pos h, dif_pos h]; exact V_v5 m c _ _
  · rw [dif_neg h, dif_neg h]
theorem xsn_eq : xsn m c = (m ((c.tc : Thread nD τ).loc main_arg2) : S_.Idx → EReal) ix0 := V_v0 m c _
theorem wsn_eq : wsn m c = (m ((c.tc : Thread nD τ).loc main_arg4) : S_.Idx → EReal) ix0 := V_v1 m c _

/-- What the host's lines after the region read: the arrays as the region leaves them. -/
def Vend : Valuation τ sig (Elt Ideal) :=
  Pipeline.withArrays spec0 c (Pipeline.withR (V0 m c) R0 c (Gend m c)) fun w => (datsV m 0 c).arrAt w cfg0.N
theorem arrRef_inj : Function.Injective (Pipeline.arrRef (spec0)) := by decide
theorem Vend_dx : Vend m c (Proc.devRef .tc main_v6_4) = (dxG m c : S4x2880x384.Idx → EReal) :=
  (Pipeline.withArrays_of_ne spec0 c _ _ main_v6_4 (by decide)).trans ((Pipeline.withR_of_mem _ R0 c _ main_v6_4 (by decide)).trans (Gend_dx m c))
theorem Vend_5 : Vend m c (Proc.devRef .tc main_v6_0) = (fun y : S2880x5760.Idx => mgoN ksc kin (Dn m c) (Xn m c) (Mn m c) (xsn m c) (y 0) (y 1)) :=
  (Pipeline.withArrays_arr spec0 arrRef_inj c _ _ 5).trans (arr5 m c)
theorem Vend_6 : Vend m c (Proc.devRef .tc main_v6_1) = (fun y : S1536x5760.Idx => codeN kin (Dn m c) (y 0) (y 1)) :=
  (Pipeline.withArrays_arr spec0 arrRef_inj c _ _ 6).trans (arr6 m c)
theorem Vend_7 : Vend m c (Proc.devRef .tc main_v6_2) = (fun y : S3x4x45.Idx => scaleN ksc (Dn m c) (3 * (y 1 : ℕ) + (y 0 : ℕ)) (y 2)) :=
  (Pipeline.withArrays_arr spec0 arrRef_inj c _ _ 7).trans (arr7 m c)
theorem Vend_8 : Vend m c (Proc.devRef .tc main_v6_3) = (fun y : S1x1.Idx => amaxN (Dn m c) 45) :=
  (Pipeline.withArrays_arr spec0 arrRef_inj c _ _ 8).trans (arr8 m c)

theorem out_dx : (StableHlo.after hostOps1 (Vend m c) (Proc.devRef .tc main_v7) : S4x384x2880.Idx → EReal)
    = resDx ksc kin (m ((c.tc : Thread nD τ).loc main_arg0)) (m ((c.tc : Thread nD τ).loc main_arg3)) ((m ((c.tc : Thread nD τ).loc main_arg4) : S_.Idx → EReal) ix0) := by
  funext y
  unfold hostOps1
  after_reads_at
  rw [Vend_dx]
  unfold dxG resDx
  rw [Dn_eq, Wn_eq, wsn_eq]
  rfl
theorem out_mg : (StableHlo.after hostOps1 (Vend m c) (Proc.devRef .tc main_v8) : S5760x2880.Idx → EReal)
    = resMg ksc kin (m ((c.tc : Thread nD τ).loc main_arg0)) (m ((c.tc : Thread nD τ).loc main_arg1)) ((m ((c.tc : Thread nD τ).loc main_arg2) : S_.Idx → EReal) ix0) (m ((c.tc : Thread nD τ).loc main_arg5)) := by
  funext y
  unfold hostOps1
  after_reads_at
  rw [Vend_5]
  unfold resMg
  rw [Dn_eq, Xn_eq, Mn_eq, xsn_eq]
  rfl
theorem out_amax : (StableHlo.after hostOps1 (Vend m c) (Proc.devRef .tc main_v9) : S_.Idx → EReal) = resAmax (m ((c.tc : Thread nD τ).loc main_arg0)) := by
  funext y
  unfold hostOps1
  after_reads_at
  rw [Vend_8]
  unfold resAmax
  rw [Dn_eq]
theorem out_codes : (StableHlo.after hostOps1 (Vend m c) (Proc.devRef .tc main_v10) : S4x384x5760.Idx → EReal) = resCodes kin (m ((c.tc : Thread nD τ).loc main_arg0)) := by
  funext y
  unfold hostOps1
  after_reads_at
  rw [Vend_6]
  unfold resCodes
  rw [Dn_eq, Nat.mul_comm 384]
  rfl
theorem out_scales : (StableHlo.after hostOps1 (Vend m c) (Proc.devRef .tc main_v11) : S4x3x45.Idx → EReal) = resScales ksc (m ((c.tc : Thread nD τ).loc main_arg0)) := by
  funext y
  unfold hostOps1
  after_reads_at
  rw [Vend_7]
  unfold resScales
  rw [Dn_eq]
  rfl

/-- THE RUN BY ITS RESULTS. -/
theorem run_results (ρ : Dev nD → PrngReg) : θ_run defs (onTc (τ := τ) (main (F := Ideal))) ⟨m, fun _ => 0, ρ⟩ (fun r => ∀ c : Dev nD,
      r.2.mem ((c.tc : Thread nD τ).loc main_v7) = resDx ksc kin (m ((c.tc : Thread nD τ).loc main_arg0)) (m ((c.tc : Thread nD τ).loc main_arg3)) ((m ((c.tc : Thread nD τ).loc main_arg4) : S_.Idx → EReal) ix0)
      ∧ r.2.mem ((c.tc : Thread nD τ).loc main_v8) = resMg ksc kin (m ((c.tc : Thread nD τ).loc main_arg0)) (m ((c.tc : Thread nD τ).loc main_arg1)) ((m ((c.tc : Thread nD τ).loc main_arg2) : S_.Idx → EReal) ix0) (m ((c.tc : Thread nD τ).loc main_arg5))
      ∧ r.2.mem ((c.tc : Thread nD τ).loc main_v9) = resAmax (m ((c.tc : Thread nD τ).loc main_arg0))
      ∧ r.2.mem ((c.tc : Thread nD τ).loc main_v10) = resCodes kin (m ((c.tc : Thread nD τ).loc main_arg0))
      ∧ r.2.mem ((c.tc : Thread nD τ).loc main_v11) = resScales ksc (m ((c.tc : Thread nD τ).loc main_arg0))) :=
  (θ_run defs _ _).mono (fun _ h c =>
    ⟨((h.1 c).2 main_v7 (Pipeline.mem_restRefs_of main_v7 (by decide) (by decide))).trans (out_dx m c),
      ((h.1 c).2 main_v8 (Pipeline.mem_restRefs_of main_v8 (by decide) (by decide))).trans (out_mg m c),
      ((h.1 c).2 main_v9 (Pipeline.mem_restRefs_of main_v9 (by decide) (by decide))).trans (out_amax m c),
      ((h.1 c).2 main_v10 (Pipeline.mem_restRefs_of main_v10 (by decide) (by decide))).trans (out_codes m c),
      ((h.1 c).2 main_v11 (Pipeline.mem_restRefs_of main_v11 (by decide) (by decide))).trans (out_scales m c)⟩) (run_mainV m ρ)

end Cert.KernelIdeal.Hand

end
-- ==== Proof.Maxima.lean ====
/-
  A maximum over the block axes of the gradient written in blocks is the largest magnitude of each block, and a maximum
  over those is the largest magnitude of all.
-/
module

public import proofs.«01_k».proof.Proof.Results

@[expose] public section

noncomputable section

namespace Cert.Spec

open Idealize.ShloMosaic Idealize.ShloMosaic.Pointwise

theorem ninf : Ideal.ofBits FTy.f32 0xFF800000#32 = ⊥ := by simp [Ideal.ofBits, Ideal.ieee]

/-- The index of the gradient in blocks of 128 by 128, by its coordinates, -/
theorem idx5_eq (x : (⟨5, ![4, 3, 128, 45, 128]⟩ : Shape).Idx) : x = ix5 (x 0) (x 1) (x 2) (x 3) (x 4) := by
  funext a; fin_cases a <;> rfl
/-- and of the blocks. -/
theorem idx3_eq (x : (⟨3, ![4, 3, 45]⟩ : Shape).Idx) : x = ix3 (x 0) (x 1) (x 2) := by
  funext a; fin_cases a <;> rfl

theorem drop_iff (hR : (⟨5, ![4, 3, 128, 45, 128]⟩ : Shape).ReducesTo [2, 4] ⟨3, ![4, 3, 45]⟩) (i) (y : (⟨3, ![4, 3, 45]⟩ : Shape).Idx) :
    hR.drop i = y ↔ (i 0 : ℕ) = y 0 ∧ (i 1 : ℕ) = y 1 ∧ (i 3 : ℕ) = y 2 := by
  have e0 : (hR.drop i 0 : ℕ) = i 0 := Shape.ReducesTo.drop_apply_val hR i 0
  have e1 : (hR.drop i 1 : ℕ) = i 1 := Shape.ReducesTo.drop_apply_val hR i 1
  have e2 : (hR.drop i 2 : ℕ) = i 3 := Shape.ReducesTo.drop_apply_val hR i 2
  constructor
  · rintro rfl; exact ⟨e0.symm, e1.symm, e2.symm⟩
  · rintro ⟨h0, h1, h2⟩
    funext a; apply Fin.ext; fin_cases a
    · exact e0.trans h0
    · exact e1.trans h1
    · exact e2.trans h2

theorem blocks_fold (D : ℕ → ℕ → EReal) (hR : (⟨5, ![4, 3, 128, 45, 128]⟩ : Shape).ReducesTo [2, 4] ⟨3, ![4, 3, 45]⟩)
    (f : (⟨5, ![4, 3, 128, 45, 128]⟩ : Shape).Idx → EReal)
    (hf : ∀ x, f x = mag (D (384 * (x 0 : ℕ) + (128 * (x 1 : ℕ) + (x 2 : ℕ))) (128 * (x 3 : ℕ) + (x 4 : ℕ)))) (y : (⟨3, ![4, 3, 45]⟩ : Shape).Idx) :
    (Finset.univ.filter fun i => hR.drop i = y).fold max (Ideal.ofBits FTy.f32 0xFF800000#32) f = tmax D (3 * (y 0 : ℕ) + (y 1 : ℕ)) (y 2) := by
  unfold tmax
  refine fold_max_eq_sup _ f _ _ _ ninf (fun i hi => ?_) (fun q _ => ?_)
  · obtain ⟨h0, h1, h2⟩ := (drop_iff hR i y).mp hi
    refine ⟨(i 2, i 4), Finset.mem_univ _, ?_⟩
    rw [hf, h0, h1, h2]
    show _ = mag (D (128 * (3 * (y 0 : ℕ) + (y 1 : ℕ)) + (i 2 : ℕ)) (128 * (y 2 : ℕ) + (i 4 : ℕ)))
    congr 2
    omega
  · refine ⟨ix5 (y 0) (y 1) q.1 (y 2) q.2, (drop_iff hR _ y).mpr ⟨rfl, rfl, rfl⟩, ?_⟩
    rw [hf]
    show mag (D (384 * (y 0 : ℕ) + (128 * (y 1 : ℕ) + (q.1 : ℕ))) (128 * (y 2 : ℕ) + (q.2 : ℕ))) = _
    congr 2
    omega

theorem all_sup (D : ℕ → ℕ → EReal) :
    (Finset.univ.sup fun x : (⟨3, ![4, 3, 45]⟩ : Shape).Idx => tmax D (3 * (x 0 : ℕ) + (x 1 : ℕ)) (x 2)) = amaxN D 45 := by
  unfold amaxN
  apply le_antisymm
  · refine Finset.sup_le fun x _ => le_sup_of_le_left ?_
    have h0 : (x 0 : ℕ) < 4 := (x 0).isLt
    have h1 : (x 1 : ℕ) < 3 := (x 1).isLt
    have h2 : (x 2 : ℕ) < 45 := (x 2).isLt
    exact Finset.le_sup (f := fun q : ℕ × ℕ => tmax D q.1 q.2) (b := (3 * (x 0 : ℕ) + (x 1 : ℕ), (x 2 : ℕ)))
      (Finset.mem_product.mpr ⟨Finset.mem_range.mpr (by show 3 * (x 0 : ℕ) + (x 1 : ℕ) < 12; omega), Finset.mem_range.mpr h2⟩)
  · refine sup_le (Finset.sup_le fun q hq => ?_) ?_
    · obtain ⟨hk, hn⟩ := Finset.mem_product.mp hq
      have hk := Finset.mem_range.mp hk
      have hn := Finset.mem_range.mp hn
      refine le_trans (le_of_eq ?_) (Finset.le_sup (f := fun x : (⟨3, ![4, 3, 45]⟩ : Shape).Idx => tmax D (3 * (x 0 : ℕ) + (x 1 : ℕ)) (x 2))
        (Finset.mem_univ (ix3 ⟨q.1 / 3, by omega⟩ ⟨q.1 % 3, by omega⟩ ⟨q.2, hn⟩)))
      show tmax D q.1 q.2 = tmax D (3 * (q.1 / 3) + q.1 % 3) q.2
      congr 1
      omega
    · exact (tmax_nonneg D _ _).trans (Finset.le_sup (f := fun x : (⟨3, ![4, 3, 45]⟩ : Shape).Idx => tmax D (3 * (x 0 : ℕ) + (x 1 : ℕ)) (x 2))
        (Finset.mem_univ (ix3 0 0 0)))

/-- An element of the gradient at its place in the blocks. -/
theorem Dof_block (a : (⟨3, ![4, 384, 5760]⟩ : Shape).Idx → EReal) (x : (⟨5, ![4, 3, 128, 45, 128]⟩ : Shape).Idx) (h1 h2) :
    a (ix3 (x 0) ⟨(x 1 : ℕ) * 128 + (x 2 : ℕ), h1⟩ ⟨(x 3 : ℕ) * 128 + (x 4 : ℕ), h2⟩)
      = Dof a (384 * (x 0 : ℕ) + (128 * (x 1 : ℕ) + (x 2 : ℕ))) (128 * (x 3 : ℕ) + (x 4 : ℕ)) := by
  have h0 : (x 0 : ℕ) < 4 := (x 0).isLt
  unfold Dof
  rw [dif_pos ⟨by omega, by omega⟩]
  congr 1
  funext a; apply Fin.ext; fin_cases a
  · show (x 0 : ℕ) = (384 * (x 0 : ℕ) + (128 * (x 1 : ℕ) + (x 2 : ℕ))) / 384; omega
  · show (x 1 : ℕ) * 128 + (x 2 : ℕ) = (384 * (x 0 : ℕ) + (128 * (x 1 : ℕ) + (x 2 : ℕ))) % 384; omega
  · show (x 3 : ℕ) * 128 + (x 4 : ℕ) = 128 * (x 3 : ℕ) + (x 4 : ℕ); omega

end Cert.Spec

end
-- ==== Proof.RefVal.lean ====
/-
  The reference's run by its results: the block maxima, the scales and the codes its first host lines compute, what the
  casts leave, and the two products after them.
-/
module

public import proofs.«01_k».proof.Proof.Maxima
public import proofs.«01_k».proof.Proof.Gen.ReferenceIdeal.Frame
public import Idealize.ShloMosaic.Lib.Pipeline.ValueKit
public import Idealize.ShloMosaic.Lib.Claim
public import Idealize.ShloMosaic.Lib.StableHlo.ReadAt

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.Tactic Idealize.ShloMosaic.Pointwise

/-! Each stretch of host lines, from any contents `U` of the buffers. -/

section
variable (U : Valuation τ sig (Elt Ideal))

/-- The maxima of the gradient's blocks. -/
theorem sA_v3 (y : S4x3x45.Idx) : (StableHlo.after (hostOps0.take 5) U (Proc.devRef .tc main_v3) : S4x3x45.Idx → EReal) y
    = tmax (Dof (U (Proc.devRef .tc main_arg0))) (3 * (y 0 : ℕ) + (y 1 : ℕ)) (y 2) := by
  simp only [hostOps0, List.take_succ_cons, List.take_zero]
  after_reads_at
  exact blocks_fold _ _ _ (fun x => congrArg mag (Dof_block _ x _ _)) y
theorem sA_v1 (x : S4x3x128x45x128.Idx) : (StableHlo.after (hostOps0.take 5) U (Proc.devRef .tc main_v1) : S4x3x128x45x128.Idx → EReal) x
    = Dof (U (Proc.devRef .tc main_arg0)) (384 * (x 0 : ℕ) + (128 * (x 1 : ℕ) + (x 2 : ℕ))) (128 * (x 3 : ℕ) + (x 4 : ℕ)) := by
  simp only [hostOps0, List.take_succ_cons, List.take_zero]
  after_reads_at
  exact Dof_block _ x _ _

/-- The exponents. -/
theorem sB_v3 : StableHlo.after (hostOps0.drop 5) U (Proc.devRef .tc main_v3) = U (Proc.devRef .tc main_v3) := by
  simp only [hostOps0, List.drop_succ_cons, List.drop_zero]
  after_reads_simp
theorem sB_v1 : StableHlo.after (hostOps0.drop 5) U (Proc.devRef .tc main_v1) = U (Proc.devRef .tc main_v1) := by
  simp only [hostOps0, List.drop_succ_cons, List.drop_zero]
  after_reads_simp
theorem sB_v12 {v : S4x3x45.Idx → EReal} (hv : U (Proc.devRef .tc main_v3) = v) (y : S4x3x45.Idx) : (StableHlo.after (hostOps0.drop 5) U (Proc.devRef .tc main_v12) : S4x3x45.Idx → EReal) y
    = Ideal.liftRound Int.floor (Ideal.div (Ideal.log (v y * Ideal.ofBits .f32 0x37924925#32)) (Ideal.log (Ideal.ofBits .f32 0x40000000#32))) + Ideal.ofBits .f32 0x3F800000#32 := by
  simp only [hostOps0, List.drop_succ_cons, List.drop_zero]
  after_reads_at
  rw [hv]
theorem sB_v14 {v : S4x3x45.Idx → EReal} (hv : U (Proc.devRef .tc main_v3) = v) (y : S4x3x45.Idx) : (StableHlo.after (hostOps0.drop 5) U (Proc.devRef .tc main_v14) : S4x3x45.Idx → BitVec 1) y
    = BitVec.ofBool (decide (v y = 0)) := by
  simp only [hostOps0, List.drop_succ_cons, List.drop_zero]
  after_reads_at
  rw [hv]
theorem sB_c4 : StableHlo.after (hostOps0.drop 5) U (Proc.devRef .tc main_cst_4) = (fun _ => 0 : S_.Idx → EReal) := by
  funext y
  simp only [hostOps0, List.drop_succ_cons, List.drop_zero]
  after_reads_at

/-- The exponent of a block of zeros set to zero. -/
theorem sC_v3 : StableHlo.after hostOps0_1 U (Proc.devRef .tc main_v3) = U (Proc.devRef .tc main_v3) := by
  unfold hostOps0_1
  after_reads_simp
theorem sC_v1 : StableHlo.after hostOps0_1 U (Proc.devRef .tc main_v1) = U (Proc.devRef .tc main_v1) := by
  unfold hostOps0_1
  after_reads_simp
theorem sC_v15 {p : S4x3x45.Idx → BitVec 1} (hp : U (Proc.devRef .tc main_v14) = p) {z : S_.Idx → EReal} (hz : U (Proc.devRef .tc main_cst_4) = z)
    {v : S4x3x45.Idx → EReal} (hv : U (Proc.devRef .tc main_v12) = v) (y : S4x3x45.Idx) :
    (StableHlo.after hostOps0_1 U (Proc.devRef .tc main_v15) : S4x3x45.Idx → EReal) y = if p y = 1#1 then z ix0 else v y := by
  unfold hostOps0_1
  after_reads_at
  rw [hp, hz, hv]
  rfl

/-- The scales, and the gradient times their inverses. -/
theorem sD_v3 : StableHlo.after hostOps0_2 U (Proc.devRef .tc main_v3) = U (Proc.devRef .tc main_v3) := by
  unfold hostOps0_2
  after_reads_simp
theorem sD_v17 {v : S4x3x45.Idx → EReal} (hv : U (Proc.devRef .tc main_v15) = v) (y : S4x3x45.Idx) :
    (StableHlo.after hostOps0_2 U (Proc.devRef .tc main_v17) : S4x3x45.Idx → EReal) y = Ideal.pow (Ideal.ofBits .f32 0x40000000#32) (v y) := by
  unfold hostOps0_2
  after_reads_at
  rw [hv]
theorem sD_v23 {w : S4x3x128x45x128.Idx → EReal} (hw : U (Proc.devRef .tc main_v1) = w) {v : S4x3x45.Idx → EReal} (hv : U (Proc.devRef .tc main_v15) = v) (x : S4x3x128x45x128.Idx) :
    (StableHlo.after hostOps0_2 U (Proc.devRef .tc main_v23) : S4x3x128x45x128.Idx → EReal) x = w x * Ideal.pow (Ideal.ofBits .f32 0x40000000#32) (-v (ix3 (x 0) (x 1) (x 3))) := by
  unfold hostOps0_2
  after_reads_at
  rw [hv, hw]
theorem sD_c7 : StableHlo.after hostOps0_2 U (Proc.devRef .tc main_cst_7) = (fun _ => Ideal.ofBits .f32 0xC7600000#32 : S_.Idx → EReal) := by
  funext y
  unfold hostOps0_2
  after_reads_at
theorem sD_c8 : StableHlo.after hostOps0_2 U (Proc.devRef .tc main_cst_8) = (fun _ => Ideal.ofBits .f32 0x47600000#32 : S_.Idx → EReal) := by
  funext y
  unfold hostOps0_2
  after_reads_at

/-- Clipped. -/
theorem sE_v3 : StableHlo.after hostOps0_3 U (Proc.devRef .tc main_v3) = U (Proc.devRef .tc main_v3) := by
  unfold hostOps0_3
  after_reads_simp
theorem sE_v17 : StableHlo.after hostOps0_3 U (Proc.devRef .tc main_v17) = U (Proc.devRef .tc main_v17) := by
  unfold hostOps0_3
  after_reads_simp
theorem sE_v24 {l h : S_.Idx → EReal} (hl : U (Proc.devRef .tc main_cst_7) = l) (hh : U (Proc.devRef .tc main_cst_8) = h)
    {w : S4x3x128x45x128.Idx → EReal} (hw : U (Proc.devRef .tc main_v23) = w) (x : S4x3x128x45x128.Idx) :
    (StableHlo.after hostOps0_3 U (Proc.devRef .tc main_v24) : S4x3x128x45x128.Idx → EReal) x = min (h ix0) (max (l ix0) (w x)) := by
  unfold hostOps0_3
  after_reads_at
  rw [hl, hh, hw]
  rfl

/-- Back to the gradient's shape; and the largest of the maxima. -/
theorem sF_v17 : StableHlo.after hostOps0_4 U (Proc.devRef .tc main_v17) = U (Proc.devRef .tc main_v17) := by
  unfold hostOps0_4
  after_reads_simp
theorem sF_v25 {w : S4x3x128x45x128.Idx → EReal} (hw : U (Proc.devRef .tc main_v24) = w) (y : S4x384x5760.Idx) :
    (StableHlo.after hostOps0_4 U (Proc.devRef .tc main_v25) : S4x384x5760.Idx → EReal) y
      = w (ix5 (y 0) ⟨(y 1 : ℕ) / 128, Nat.div_lt_of_lt_mul (y 1).isLt⟩ ⟨(y 1 : ℕ) % 128, Nat.mod_lt _ (by decide)⟩ ⟨(y 2 : ℕ) / 128, Nat.div_lt_of_lt_mul (y 2).isLt⟩ ⟨(y 2 : ℕ) % 128, Nat.mod_lt _ (by decide)⟩) := by
  unfold hostOps0_4
  after_reads_at
  rw [hw]
theorem sF_v26 {v : S4x3x45.Idx → EReal} (hv : U (Proc.devRef .tc main_v3) = v) (y : S_.Idx) :
    (StableHlo.after hostOps0_4 U (Proc.devRef .tc main_v26) : S_.Idx → EReal) y = Finset.univ.sup v := by
  unfold hostOps0_4
  after_reads_at
  rw [hv, ninf]
  show Finset.univ.sup (fun k : Fin 4 × Fin 3 × Fin 45 => v (ix3 k.1 k.2.1 k.2.2)) = _
  apply le_antisymm
  · exact Finset.sup_le fun k _ => Finset.le_sup (f := v) (Finset.mem_univ _)
  · refine Finset.sup_le fun x _ => ?_
    rw [idx3_eq x]
    exact Finset.le_sup (f := fun k : Fin 4 × Fin 3 × Fin 45 => v (ix3 k.1 k.2.1 k.2.2)) (Finset.mem_univ (x 0, x 1, x 2))

/-- The scaled codes, -/
theorem sG_v32 {k : S4x384x5760.Idx → EReal} (hk : U (Proc.devRef .tc main_v27_1) = k) {v : S4x3x45.Idx → EReal} (hv : U (Proc.devRef .tc main_v17) = v) (x : S4x3x128x45x128.Idx) :
    (StableHlo.after (hostOps1.take 5) U (Proc.devRef .tc main_v32) : S4x3x128x45x128.Idx → EReal) x
      = k (ix3 (x 0) ⟨(x 1 : ℕ) * 128 + (x 2 : ℕ), by have h1 : (x 1 : ℕ) < 3 := (x 1).isLt; have h2 : (x 2 : ℕ) < 128 := (x 2).isLt; omega⟩
          ⟨(x 3 : ℕ) * 128 + (x 4 : ℕ), by have h1 : (x 3 : ℕ) < 45 := (x 3).isLt; have h2 : (x 4 : ℕ) < 128 := (x 4).isLt; omega⟩) * v (ix3 (x 0) (x 1) (x 3)) := by
  simp only [hostOps1, List.take_succ_cons, List.take_zero]
  after_reads_at
  rw [hk, hv]
theorem sH_v33 {w : S4x3x128x45x128.Idx → EReal} (hw : U (Proc.devRef .tc main_v32) = w) (y : S4x384x5760.Idx) :
    (StableHlo.after ((hostOps1.drop 5).take 1) U (Proc.devRef .tc main_v33) : S4x384x5760.Idx → EReal) y
      = w (ix5 (y 0) ⟨(y 1 : ℕ) / 128, Nat.div_lt_of_lt_mul (y 1).isLt⟩ ⟨(y 1 : ℕ) % 128, Nat.mod_lt _ (by decide)⟩ ⟨(y 2 : ℕ) / 128, Nat.div_lt_of_lt_mul (y 2).isLt⟩ ⟨(y 2 : ℕ) % 128, Nat.mod_lt _ (by decide)⟩) := by
  simp only [hostOps1, List.drop_succ_cons, List.drop_zero, List.take_succ_cons, List.take_zero]
  after_reads_at
  rw [hw]
/-- and the two products of them. -/
theorem sI_v37 {k : S4x384x5760.Idx → EReal} (hk : U (Proc.devRef .tc main_v33) = k) {w : S5760x2880.Idx → EReal} (hw : U (Proc.devRef .tc main_v27_3) = w)
    {s : S_.Idx → EReal} (hs : U (Proc.devRef .tc main_arg4) = s) (y : S4x384x2880.Idx) :
    (StableHlo.after (hostOps1.drop 6) U (Proc.devRef .tc main_v37) : S4x384x2880.Idx → EReal) y = (∑ o, k (ix3 (y 0) (y 1) o) * w (ix2 o (y 2))) * s ix0 := by
  simp only [hostOps1, List.drop_succ_cons, List.drop_zero]
  after_reads_at
  rw [hk, hw, hs]
theorem sI_v41 {k : S4x384x5760.Idx → EReal} (hk : U (Proc.devRef .tc main_v33) = k) {x : S4x384x2880.Idx → EReal} (hx : U (Proc.devRef .tc main_v27_2) = x)
    {s : S_.Idx → EReal} (hs : U (Proc.devRef .tc main_arg2) = s) {a : S5760x2880.Idx → EReal} (ha : U (Proc.devRef .tc main_arg5) = a) (y : S5760x2880.Idx) :
    (StableHlo.after (hostOps1.drop 6) U (Proc.devRef .tc main_v41) : S5760x2880.Idx → EReal) y = a y + (∑ b, ∑ t, k (ix3 b t (y 0)) * x (ix3 b t (y 1))) * s ix0 := by
  simp only [hostOps1, List.drop_succ_cons, List.drop_zero]
  after_reads_at
  rw [hk, hx, hs, ha]
end

end Cert.ReferenceIdeal.Hand

end
-- ==== Proof.RefRun.lean ====
/-
  The reference's run by its results: its stretches of host lines chained around the casts.
-/
module

public import proofs.«01_k».proof.Proof.RefVal

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.Tactic Idealize.ShloMosaic.Pointwise

variable (m : (ℓ : Loc nD τ sig) → Buf (Elt Ideal) ℓ) (c : Dev nD)

theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

/-- The contents after each stretch before the casts. -/
def UA : Valuation τ sig (Elt Ideal) := StableHlo.after (hostOps0.take 5) (fun b => m (c, b))
def UB : Valuation τ sig (Elt Ideal) := StableHlo.after (hostOps0.drop 5) (UA m c)
def UC : Valuation τ sig (Elt Ideal) := StableHlo.after hostOps0_1 (UB m c)
def UD : Valuation τ sig (Elt Ideal) := StableHlo.after hostOps0_2 (UC m c)
def UE : Valuation τ sig (Elt Ideal) := StableHlo.after hostOps0_3 (UD m c)
def UF : Valuation τ sig (Elt Ideal) := StableHlo.after hostOps0_4 (UE m c)

theorem V0_eq : V0 m c = UF m c := by
  unfold V0 UF UE UD UC UB UA
  rw [← after_append (hostOps0.take 5), List.take_append_drop]
  simp only [List.flatten_cons, List.flatten_nil, List.append_nil, after_append]

/-- The gradient, by token and output dimension. -/
def Dm : ℕ → ℕ → EReal := Dof (m ((c.tc : Thread nD τ).loc main_arg0))
/-- The maxima of its blocks, and the block at an index of the gradient. -/
def bm (y : S4x3x45.Idx) : EReal := tmax (Dm m c) (3 * (y 0 : ℕ) + (y 1 : ℕ)) (y 2)

theorem UA_v3 : UA m c (Proc.devRef .tc main_v3) = bm m c := funext fun y => sA_v3 _ y
theorem UA_v1 : UA m c (Proc.devRef .tc main_v1)
    = (fun x => Dm m c (384 * (x 0 : ℕ) + (128 * (x 1 : ℕ) + (x 2 : ℕ))) (128 * (x 3 : ℕ) + (x 4 : ℕ)) : S4x3x128x45x128.Idx → EReal) := funext fun x => sA_v1 _ x
theorem UB_v3 : UB m c (Proc.devRef .tc main_v3) = bm m c := (sB_v3 _).trans (UA_v3 m c)
theorem UB_v1 : UB m c (Proc.devRef .tc main_v1) = UA m c (Proc.devRef .tc main_v1) := sB_v1 _
theorem UC_v3 : UC m c (Proc.devRef .tc main_v3) = bm m c := (sC_v3 _).trans (UB_v3 m c)
theorem UC_v1 : UC m c (Proc.devRef .tc main_v1) = UA m c (Proc.devRef .tc main_v1) := (sC_v1 _).trans (UB_v1 m c)
theorem UC_v15 : UC m c (Proc.devRef .tc main_v15) = (fun y => rexp (bm m c y) : S4x3x45.Idx → EReal) := by
  funext y
  refine (sC_v15 (UB m c) (funext fun y => sB_v14 (UA m c) (UA_v3 m c) y) (sB_c4 _) (funext fun y => sB_v12 (UA m c) (UA_v3 m c) y) y).trans ?_
  unfold rexp
  by_cases h : bm m c y = 0 <;> simp [h]
theorem UD_v3 : UD m c (Proc.devRef .tc main_v3) = bm m c := (sD_v3 _).trans (UC_v3 m c)
theorem UD_v17 : UD m c (Proc.devRef .tc main_v17) = (fun y => rsc (bm m c y) : S4x3x45.Idx → EReal) := funext fun y => sD_v17 _ (UC_v15 m c) y
theorem UD_v23 : UD m c (Proc.devRef .tc main_v23)
    = (fun x => Dm m c (384 * (x 0 : ℕ) + (128 * (x 1 : ℕ) + (x 2 : ℕ))) (128 * (x 3 : ℕ) + (x 4 : ℕ)) * rin (bm m c (ix3 (x 0) (x 1) (x 3))) : S4x3x128x45x128.Idx → EReal) :=
  funext fun x => sD_v23 _ ((UC_v1 m c).trans (UA_v1 m c)) (UC_v15 m c) x
theorem UE_v3 : UE m c (Proc.devRef .tc main_v3) = bm m c := (sE_v3 _).trans (UD_v3 m c)
theorem UE_v17 : UE m c (Proc.devRef .tc main_v17) = (fun y => rsc (bm m c y) : S4x3x45.Idx → EReal) := (sE_v17 _).trans (UD_v17 m c)
theorem UE_v24 : UE m c (Proc.devRef .tc main_v24)
    = (fun x => clipc (Dm m c (384 * (x 0 : ℕ) + (128 * (x 1 : ℕ) + (x 2 : ℕ))) (128 * (x 3 : ℕ) + (x 4 : ℕ)) * rin (bm m c (ix3 (x 0) (x 1) (x 3)))) : S4x3x128x45x128.Idx → EReal) := by
  funext x
  refine (sE_v24 (UD m c) (sD_c7 _) (sD_c8 _) (UD_v23 m c) x).trans ?_
  unfold clipc
  rw [min_comm, max_comm]
theorem UF_v17 : UF m c (Proc.devRef .tc main_v17) = (fun y => rsc (bm m c y) : S4x3x45.Idx → EReal) := (sF_v17 _).trans (UE_v17 m c)
theorem UF_v26 : UF m c (Proc.devRef .tc main_v26) = (fun _ => amaxN (Dm m c) 45 : S_.Idx → EReal) :=
  funext fun y => (sF_v26 _ (UE_v3 m c) y).trans (all_sup _)
/-- The codes: the reference's index of an element's block is the element's own. -/
theorem UF_v25 : UF m c (Proc.devRef .tc main_v25) = (fun y => codeN rin (Dm m c) (384 * (y 0 : ℕ) + (y 1 : ℕ)) (y 2) : S4x384x5760.Idx → EReal) := by
  funext y
  refine (sF_v25 _ (UE_v24 m c) y).trans ?_
  have h0 : (y 0 : ℕ) < 4 := (y 0).isLt
  have h1 : (y 1 : ℕ) < 384 := (y 1).isLt
  unfold codeN bm
  show clipc (Dm m c (384 * (y 0 : ℕ) + (128 * ((y 1 : ℕ) / 128) + (y 1 : ℕ) % 128)) (128 * ((y 2 : ℕ) / 128) + (y 2 : ℕ) % 128) * rin (tmax (Dm m c) (3 * (y 0 : ℕ) + (y 1 : ℕ) / 128) ((y 2 : ℕ) / 128))) = _
  rw [Nat.div_add_mod, Nat.div_add_mod, show 3 * (y 0 : ℕ) + (y 1 : ℕ) / 128 = (384 * (y 0 : ℕ) + (y 1 : ℕ)) / 128 by omega]

/-! The casts keep every value. -/

theorem pay1_eq (v : Vec Ideal S4x384x5760 .f32) : k0_pay1 v = v := by
  funext y
  unfold k0_pay1
  pointwise
theorem pay2_eq (v : Vec Ideal S4x384x5760 .f32) : k0_pay2 v = v := by
  funext y
  unfold k0_pay2
  rw [pay1_eq]
  rfl
theorem pay3_eq (v : Vec Ideal S4x384x2880 .fp8e4m3) : k0_pay3 v = v := rfl
theorem pay4_eq (v : Vec Ideal S5760x2880 .fp8e4m3) : k0_pay4 v = v := rfl

theorem rarr3 (W : S4x384x5760.Idx → EReal) (hW : V m c main_v25 = W) : (dats m 0 c).arrAt 3 cfg0.N = W := by
  refine (dats m 0 c).arrAt_eq_of_covers 3 _ (by decide +kernel) fun t hf y => ?_
  blk_simp
  rw [after0_3]
  frame_out
  rw [pay1_eq]
  unfold iblk
  rw [show V m c (Pipeline.arrRef spec0 0) = W from hW]
  blk_simp
  blk_ext
  all_goals rfl
theorem rarr4 (W : S4x384x5760.Idx → EReal) (hW : V m c main_v25 = W) : (dats m 0 c).arrAt 4 cfg0.N = W := by
  refine (dats m 0 c).arrAt_eq_of_covers 4 _ (by decide +kernel) fun t hf y => ?_
  blk_simp
  rw [after0_4]
  frame_out
  rw [pay2_eq]
  unfold iblk
  rw [show V m c (Pipeline.arrRef spec0 0) = W from hW]
  blk_simp
  blk_ext
  all_goals rfl
theorem rarr5 : (dats m 0 c).arrAt 5 cfg0.N = V m c main_arg1 := by
  refine (dats m 0 c).arrAt_eq_of_covers 5 _ (by decide +kernel) fun t hf y => ?_
  blk_simp
  rw [after0_5]
  frame_out
  rw [pay3_eq]
  generalize hV : V m c = W
  blk_simp [iblk]
  rw [hV]
  blk_ext
  all_goals rfl
theorem rarr6 : (dats m 0 c).arrAt 6 cfg0.N = V m c main_arg3 := by
  refine (dats m 0 c).arrAt_eq_of_covers 6 _ (by decide +kernel) fun t hf y => ?_
  blk_simp
  rw [after0_6]
  frame_out
  rw [pay4_eq]
  generalize hV : V m c = W
  blk_simp [iblk]
  rw [hV]
  blk_ext
  all_goals rfl

end Cert.ReferenceIdeal.Hand

end
-- ==== Proof.RefEnd.lean ====
/-
  The reference's run by its results: the two products after the casts, and the whole run.
-/
module

public import proofs.«01_k».proof.Proof.RefRun

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.Tactic Idealize.ShloMosaic.Pointwise

section
variable (U : Valuation τ sig (Elt Ideal))

/-- What the lines after the casts leave alone. -/
theorem keep1 (b : Ref sig .tc) (hb : ∀ op ∈ (hostOps1 : List (HloOp τ sig (Elt Ideal))), Proc.devRef .tc b ∉ op.writes) (l : List (HloOp τ sig (Elt Ideal))) (hl : l ⊆ hostOps1) :
    StableHlo.after l U (Proc.devRef .tc b) = U (Proc.devRef .tc b) :=
  StableHlo.after_of_forall_not_mem (b := Proc.devRef .tc b) _ _ fun op hop => hb op (hl hop)
theorem after1 : StableHlo.after hostOps1 U = StableHlo.after (hostOps1.drop 6) (StableHlo.after ((hostOps1.drop 5).take 1) (StableHlo.after (hostOps1.take 5) U)) := by
  rw [← after_append, ← after_append]; rfl
theorem sub5 : (hostOps1 : List (HloOp τ sig (Elt Ideal))).take 5 ⊆ hostOps1 := List.take_subset _ _
theorem sub51 : ((hostOps1 : List (HloOp τ sig (Elt Ideal))).drop 5).take 1 ⊆ hostOps1 := fun _ h => List.drop_subset _ _ (List.take_subset _ _ h)
end

/-- No line after the casts writes buffer `b`, by the lines' own results. -/
theorem nowrite (b : Ref sig .tc) (hb : b ≠ main_v28 ∧ b ≠ main_v29 ∧ b ≠ main_v30 ∧ b ≠ main_v31 ∧ b ≠ main_v32 ∧ b ≠ main_v33 ∧ b ≠ main_v34 ∧ b ≠ main_v35 ∧ b ≠ main_v36
      ∧ b ≠ main_v37 ∧ b ≠ main_v38 ∧ b ≠ main_v39 ∧ b ≠ main_v40 ∧ b ≠ main_v41) :
    ∀ op ∈ (hostOps1 : List (HloOp τ sig (Elt Ideal))), Proc.devRef .tc b ∉ op.writes := by
  obtain ⟨h1, h2, h3, h4, h5, h6, h7, h8, h9, h10, h11, h12, h13, h14⟩ := hb
  intro op hop
  simp only [hostOps1, List.mem_cons, List.mem_nil_iff, or_false] at hop
  rcases hop with rfl | rfl | rfl | rfl | rfl | rfl | rfl | rfl | rfl | rfl | rfl | rfl | rfl | rfl
  all_goals simp only [StableHlo.unary_writes, StableHlo.binary_writes, StableHlo.reshape_writes, Finset.mem_singleton]
  all_goals exact StableHlo.devRef_ne_of_ne (by assumption)

variable (m : (ℓ : Loc nD τ sig) → Buf (Elt Ideal) ℓ) (c : Dev nD)

/-- What the lines after the casts read. -/
def Vr : Valuation τ sig (Elt Ideal) := Pipeline.withArrays spec0 c (V0 m c) fun w => (dats m 0 c).arrAt w cfg0.N
theorem arrRef_inj : Function.Injective (Pipeline.arrRef spec0) := by decide

theorem v25_eq : V m c main_v25 = (fun y => codeN rin (Dm m c) (384 * (y 0 : ℕ) + (y 1 : ℕ)) (y 2) : S4x384x5760.Idx → EReal) := (congrFun (V0_eq m c) _).trans (UF_v25 m c)
theorem Vr_codes : Vr m c (Proc.devRef .tc main_v27_1) = (fun y => codeN rin (Dm m c) (384 * (y 0 : ℕ) + (y 1 : ℕ)) (y 2) : S4x384x5760.Idx → EReal) :=
  (Pipeline.withArrays_arr spec0 arrRef_inj c _ _ 4).trans (rarr4 m c _ (v25_eq m c))
theorem Vr_x : Vr m c (Proc.devRef .tc main_v27_2) = (m ((c.tc : Thread nD τ).loc main_arg1) : S4x384x2880.Idx → EReal) :=
  (Pipeline.withArrays_arr spec0 arrRef_inj c _ _ 5).trans ((rarr5 m c).trans (V_main_arg1 m c))
theorem Vr_w : Vr m c (Proc.devRef .tc main_v27_3) = (m ((c.tc : Thread nD τ).loc main_arg3) : S5760x2880.Idx → EReal) :=
  (Pipeline.withArrays_arr spec0 arrRef_inj c _ _ 6).trans ((rarr6 m c).trans (V_main_arg3 m c))
theorem Vr_v17 : Vr m c (Proc.devRef .tc main_v17) = (fun y => rsc (bm m c y) : S4x3x45.Idx → EReal) :=
  (Pipeline.withArrays_of_ne spec0 c _ _ main_v17 (by decide)).trans ((congrFun (V0_eq m c) _).trans (UF_v17 m c))
theorem Vr_v26 : Vr m c (Proc.devRef .tc main_v26) = (fun _ => amaxN (Dm m c) 45 : S_.Idx → EReal) :=
  (Pipeline.withArrays_of_ne spec0 c _ _ main_v26 (by decide)).trans ((congrFun (V0_eq m c) _).trans (UF_v26 m c))
theorem Vr_arg2 : Vr m c (Proc.devRef .tc main_arg2) = (m ((c.tc : Thread nD τ).loc main_arg2) : S_.Idx → EReal) :=
  (Pipeline.withArrays_of_ne spec0 c _ _ main_arg2 (by decide)).trans (V_main_arg2 m c)
theorem Vr_arg4 : Vr m c (Proc.devRef .tc main_arg4) = (m ((c.tc : Thread nD τ).loc main_arg4) : S_.Idx → EReal) :=
  (Pipeline.withArrays_of_ne spec0 c _ _ main_arg4 (by decide)).trans (V_main_arg4 m c)
theorem Vr_arg5 : Vr m c (Proc.devRef .tc main_arg5) = (m ((c.tc : Thread nD τ).loc main_arg5) : S5760x2880.Idx → EReal) :=
  (Pipeline.withArrays_of_ne spec0 c _ _ main_arg5 (by decide)).trans (V_main_arg5 m c)

/-- The contents after the codes are scaled. -/
def UG : Valuation τ sig (Elt Ideal) := StableHlo.after ((hostOps1.drop 5).take 1) (StableHlo.after (hostOps1.take 5) (Vr m c))
theorem UG_keep (b : Ref sig .tc) (hb : b ≠ main_v28 ∧ b ≠ main_v29 ∧ b ≠ main_v30 ∧ b ≠ main_v31 ∧ b ≠ main_v32 ∧ b ≠ main_v33 ∧ b ≠ main_v34 ∧ b ≠ main_v35 ∧ b ≠ main_v36
      ∧ b ≠ main_v37 ∧ b ≠ main_v38 ∧ b ≠ main_v39 ∧ b ≠ main_v40 ∧ b ≠ main_v41) : UG m c (Proc.devRef .tc b) = Vr m c (Proc.devRef .tc b) :=
  (keep1 _ b (nowrite b hb) _ sub51).trans (keep1 _ b (nowrite b hb) _ sub5)
theorem UG_v33 : UG m c (Proc.devRef .tc main_v33) = (fun y => dysN rsc rin (Dm m c) (384 * (y 0 : ℕ) + (y 1 : ℕ)) (y 2) : S4x384x5760.Idx → EReal) := by
  funext y
  refine (sH_v33 _ (funext fun x => sG_v32 (Vr m c) (Vr_codes m c) (Vr_v17 m c) x) y).trans ?_
  have h0 : (y 0 : ℕ) < 4 := (y 0).isLt
  have h1 : (y 1 : ℕ) < 384 := (y 1).isLt
  unfold dysN bm
  show codeN rin (Dm m c) (384 * (y 0 : ℕ) + ((y 1 : ℕ) / 128 * 128 + (y 1 : ℕ) % 128)) ((y 2 : ℕ) / 128 * 128 + (y 2 : ℕ) % 128)
    * rsc (tmax (Dm m c) (3 * (y 0 : ℕ) + (y 1 : ℕ) / 128) ((y 2 : ℕ) / 128)) = _
  rw [Nat.div_add_mod', Nat.div_add_mod', show 3 * (y 0 : ℕ) + (y 1 : ℕ) / 128 = (384 * (y 0 : ℕ) + (y 1 : ℕ)) / 128 by omega]

theorem out_dx : (StableHlo.after hostOps1 (Vr m c) (Proc.devRef .tc main_v37) : S4x384x2880.Idx → EReal)
    = resDx rsc rin (m ((c.tc : Thread nD τ).loc main_arg0)) (m ((c.tc : Thread nD τ).loc main_arg3)) ((m ((c.tc : Thread nD τ).loc main_arg4) : S_.Idx → EReal) ix0) := by
  funext y
  rw [after1]
  refine (sI_v37 (UG m c) (UG_v33 m c) ((UG_keep m c main_v27_3 (by decide)).trans (Vr_w m c)) ((UG_keep m c main_arg4 (by decide)).trans (Vr_arg4 m c)) y).trans ?_
  have h2 : (y 2 : ℕ) < 2880 := (y 2).isLt
  unfold resDx accN
  rw [← Fin.sum_univ_eq_sum_range (fun o => Tof (m ((c.tc : Thread nD τ).loc main_arg3)) (y 2) o * dysN rsc rin (Dof (m ((c.tc : Thread nD τ).loc main_arg0))) (384 * (y 0 : ℕ) + (y 1 : ℕ)) o) 5760]
  refine congrArg (· * _) (Finset.sum_congr rfl fun o _ => ?_)
  unfold Tof
  rw [dif_pos ⟨h2, o.isLt⟩, mul_comm]
  rfl

theorem out_mg : (StableHlo.after hostOps1 (Vr m c) (Proc.devRef .tc main_v41) : S5760x2880.Idx → EReal)
    = resMg rsc rin (m ((c.tc : Thread nD τ).loc main_arg0)) (m ((c.tc : Thread nD τ).loc main_arg1)) ((m ((c.tc : Thread nD τ).loc main_arg2) : S_.Idx → EReal) ix0) (m ((c.tc : Thread nD τ).loc main_arg5)) := by
  funext y
  rw [after1]
  refine (sI_v41 (UG m c) (UG_v33 m c) ((UG_keep m c main_v27_2 (by decide)).trans (Vr_x m c)) ((UG_keep m c main_arg2 (by decide)).trans (Vr_arg2 m c)) ((UG_keep m c main_arg5 (by decide)).trans (Vr_arg5 m c)) y).trans ?_
  have h0 : (y 0 : ℕ) < 5760 := (y 0).isLt
  have h1 : (y 1 : ℕ) < 2880 := (y 1).isLt
  unfold resMg mgoN
  congr 1
  · unfold Tof
    rw [dif_pos ⟨h1, h0⟩]
    refine congrArg _ (funext fun a => ?_)
    fin_cases a <;> rfl
  · refine congrArg (· * _) ?_
    rw [← Fin.sum_univ_eq_sum_range (fun p => Xof (m ((c.tc : Thread nD τ).loc main_arg1)) (y 1) p * dysN rsc rin (Dof (m ((c.tc : Thread nD τ).loc main_arg0))) p (y 0)) 1536,
      ← (finProdFinEquiv (m := 4) (n := 384)).sum_comp, Fintype.sum_prod_type]
    refine Finset.sum_congr rfl fun b _ => Finset.sum_congr rfl fun t _ => ?_
    have hb : (b : ℕ) < 4 := b.isLt
    have ht : (t : ℕ) < 384 := t.isLt
    have e : ((finProdFinEquiv (m := 4) (n := 384) (b, t) : Fin (4 * 384)) : ℕ) = 384 * (b : ℕ) + (t : ℕ) := by
      show (t : ℕ) + 384 * (b : ℕ) = _; omega
    rw [e]
    unfold Xof
    rw [dif_pos ⟨h1, by omega⟩, mul_comm]
    refine congrArg₂ (· * ·) (congrArg _ (funext fun a => Fin.ext ?_)) rfl
    fin_cases a
    · show (b : ℕ) = (384 * (b : ℕ) + (t : ℕ)) / 384; omega
    · show (t : ℕ) = (384 * (b : ℕ) + (t : ℕ)) % 384; omega
    · rfl

/-- THE RUN BY ITS RESULTS. -/
theorem run_results (ρ : Dev nD → PrngReg) : θ_run defs (onTc (τ := τ) (main (F := Ideal))) ⟨m, fun _ => 0, ρ⟩ (fun r => ∀ c : Dev nD,
      r.2.mem ((c.tc : Thread nD τ).loc main_v37) = resDx rsc rin (m ((c.tc : Thread nD τ).loc main_arg0)) (m ((c.tc : Thread nD τ).loc main_arg3)) ((m ((c.tc : Thread nD τ).loc main_arg4) : S_.Idx → EReal) ix0)
      ∧ r.2.mem ((c.tc : Thread nD τ).loc main_v41) = resMg rsc rin (m ((c.tc : Thread nD τ).loc main_arg0)) (m ((c.tc : Thread nD τ).loc main_arg1)) ((m ((c.tc : Thread nD τ).loc main_arg2) : S_.Idx → EReal) ix0) (m ((c.tc : Thread nD τ).loc main_arg5))
      ∧ r.2.mem ((c.tc : Thread nD τ).loc main_v26) = resAmax (m ((c.tc : Thread nD τ).loc main_arg0))
      ∧ r.2.mem ((c.tc : Thread nD τ).loc main_v27_0) = resCodes rin (m ((c.tc : Thread nD τ).loc main_arg0))
      ∧ r.2.mem ((c.tc : Thread nD τ).loc main_v17) = resScales rsc (m ((c.tc : Thread nD τ).loc main_arg0))) :=
  (θ_run defs _ _).mono (fun _ h c =>
    ⟨((h c).2 main_v37 (Pipeline.mem_restRefs_of main_v37 (by decide) (by decide))).trans (out_dx m c),
      ((h c).2 main_v41 (Pipeline.mem_restRefs_of main_v41 (by decide) (by decide))).trans (out_mg m c),
      ((h c).2 main_v26 (Pipeline.mem_restRefs_of main_v26 (by decide) (by decide))).trans ((keep1 (Vr m c) main_v26 (nowrite main_v26 (by decide)) _ (List.Subset.refl _)).trans (Vr_v26 m c)),
      ((h c).1 3).trans (rarr3 m c _ (v25_eq m c)),
      ((h c).2 main_v17 (Pipeline.mem_restRefs_of main_v17 (by decide) (by decide))).trans ((keep1 (Vr m c) main_v17 (nowrite main_v17 (by decide)) _ (List.Subset.refl _)).trans (Vr_v17 m c))⟩) (run_main m ρ)

end Cert.ReferenceIdeal.Hand

end
-- ==== Proof.Pre.lean ====
/-
  The precondition, read as a statement of the block maxima: each is zero or in the range its exponent needs.
-/
module

public import proofs.«01_k».proof.Defs
public import proofs.«01_k».proof.Proof.Scale
public import proofs.«01_k».proof.Proof.Maxima
public import proofs.«01_k».proof.Proof.Results
public import Idealize.ShloMosaic.Lib.Pointwise
public import Idealize.ShloMosaic.Lib.WordArith

@[expose] public section

set_option maxRecDepth 16384

noncomputable section

namespace Cert.Pre_scales_in_range

open Idealize.ShloMosaic Idealize.ShloMosaic.Tactic Idealize.ShloMosaic.Pointwise
open Cert.Spec Cert.KernelIdeal.Hand

theorem facts : Facts where
  bitsLt_bf16_f32 := by decide
  shapeCasts_S4x384x5760_S4x3x128x45x128 := by decide
  reducesTo_S4x3x128x45x128_S4x3x45_d2_4 := by decide
  h_S_ := by decide
  bcast_S_S4x3x45 := by decide

variable [Facts]

/-- The maxima of the magnitudes of the blocks, as the precondition takes them. -/
def blockMax (a0 : FVec Ideal S4x384x5760 .bf16) : FVec Ideal S4x3x45 .f32 :=
  Host.reduce FloatOps.maximumf (Host.absf (shapeCast S4x3x128x45x128 (extf .f32 a0 Facts.bitsLt_bf16_f32) Facts.shapeCasts_S4x384x5760_S4x3x128x45x128))
    (constant S_ .f32 0xFF800000#32) Facts.reducesTo_S4x3x128x45x128_S4x3x45_d2_4 Facts.h_S_

theorem blockMax_eq (a0 : S4x384x5760.Idx → EReal) (y : S4x3x45.Idx) : (blockMax a0 : S4x3x45.Idx → EReal) y = tmax (Dof a0) (3 * (y 0 : ℕ) + (y 1 : ℕ)) (y 2) := by
  unfold blockMax
  pointwise
  exact blocks_fold _ _ _ (fun x => congrArg mag (Dof_block _ x _ _)) y

/-- What is asked of one block's maximum. -/
theorem inRange_of (v : FVec Ideal S4x3x45 .f32) (y : S4x3x45.Idx)
    (h : ori (cmpf .oeq v (broadcastInDim S4x3x45 ![] Facts.bcast_S_S4x3x45 (constant S_ .f32 0x00000000#32)))
      (andi (cmpf .oge (mulf v (broadcastInDim S4x3x45 ![] Facts.bcast_S_S4x3x45 (constant S_ .f32 0x37924925#32))) (broadcastInDim S4x3x45 ![] Facts.bcast_S_S4x3x45 (constant S_ .f32 0x00800000#32)))
        (cmpf .ole v (broadcastInDim S4x3x45 ![] Facts.bcast_S_S4x3x45 (constant S_ .f32 0x7F7FFFFF#32)))) y = 1#1) : InRange (v y) := by
  revert h
  pointwise
  intro h
  rw [WordArith.andi_ofBool, WordArith.ori_ofBool, WordArith.ofBool_eq_one_iff] at h
  simpa [InRange] using h

theorem inRange (a0 : S4x384x5760.Idx → EReal) (a1) (a2) (a3) (a4) (a5)
    (h : fn (F := Ideal) a0 a1 a2 a3 a4 a5 = fun _ => 1#1) (k n : ℕ) (hk : k < 12) (hn : n < 45) : InRange (tmax (Dof a0) k n) := by
  have e := inRange_of (blockMax a0) (ix3 (⟨k / 3, by omega⟩ : Fin 4) (⟨k % 3, by omega⟩ : Fin 3) (⟨n, hn⟩ : Fin 45)) (congrFun h _)
  rw [blockMax_eq] at e
  have e' : 3 * (k / 3) + k % 3 = k := by omega
  rwa [show 3 * ((ix3 (⟨k / 3, by omega⟩ : Fin 4) (⟨k % 3, by omega⟩ : Fin 3) (⟨n, hn⟩ : Fin 45) 0 : Fin _) : ℕ) + ((ix3 (⟨k / 3, by omega⟩ : Fin 4) (⟨k % 3, by omega⟩ : Fin 3) (⟨n, hn⟩ : Fin 45) 1 : Fin _) : ℕ) = k from e'] at e

end Cert.Pre_scales_in_range

end
-- ==== Proof.lean ====
/-
  The proof of this directory's certificate (Defs.lean): the frames of the kernel, of its idealization and of the
  reference's idealization, that the idealization preserves the kernel, and that kernel and reference end with equal
  results where the maxima of the blocks are in range.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frame
public import proofs.«01_k».proof.Proof.KFrame
public import proofs.«01_k».proof.Proof.Arrays
public import proofs.«01_k».proof.Proof.RefEnd
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem

/-- Where the maxima of the blocks are in range, the kernel's scales and inverse scales are the reference's. -/
theorem scales (a0 : (⟨3, ![4, 384, 5760]⟩ : Shape).Idx → EReal) (h : ∀ k n : ℕ, k < 12 → n < 45 → Cert.KernelIdeal.Hand.InRange (Cert.Spec.tmax (Cert.Spec.Dof a0) k n)) :
    ∀ k n : ℕ, k < 12 → n < 45 → Cert.KernelIdeal.Hand.ksc (Cert.Spec.tmax (Cert.Spec.Dof a0) k n) = Cert.Spec.rsc (Cert.Spec.tmax (Cert.Spec.Dof a0) k n)
      ∧ Cert.KernelIdeal.Hand.kin (Cert.Spec.tmax (Cert.Spec.Dof a0) k n) = Cert.Spec.rin (Cert.Spec.tmax (Cert.Spec.Dof a0) k n) :=
  fun k n hk hn => Cert.KernelIdeal.Hand.scales_agree _ (h k n hk hn)

/-- Kernel and reference end with equal results. -/
theorem results_equal : algebraic_KernelIdeal_ReferenceIdeal_pre_scales_in_range (hKernelIdeal := Cert.KernelIdeal.Gen.facts)
    (hReferenceIdeal := Cert.ReferenceIdeal.Gen.facts) (hPre_scales_in_range := Cert.Pre_scales_in_range.facts) := by
  intro m g m' g' hpre hagree
  refine ⟨fun c => Cert.Spec.resDx Cert.KernelIdeal.Hand.ksc Cert.KernelIdeal.Hand.kin (m ((c.tc : Thread Cert.KernelIdeal.nD Cert.KernelIdeal.τ).loc Cert.KernelIdeal.main_arg0)) (m ((c.tc : Thread Cert.KernelIdeal.nD Cert.KernelIdeal.τ).loc Cert.KernelIdeal.main_arg3)) ((m ((c.tc : Thread Cert.KernelIdeal.nD Cert.KernelIdeal.τ).loc Cert.KernelIdeal.main_arg4) : Cert.KernelIdeal.S_.Idx → EReal) ix0),
    fun c => Cert.Spec.resMg Cert.KernelIdeal.Hand.ksc Cert.KernelIdeal.Hand.kin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) ((m ((c.tc : Thread Cert.KernelIdeal.nD Cert.KernelIdeal.τ).loc Cert.KernelIdeal.main_arg2) : Cert.KernelIdeal.S_.Idx → EReal) ix0) (m ((c.tc : Thread Cert.KernelIdeal.nD Cert.KernelIdeal.τ).loc Cert.KernelIdeal.main_arg5)),
    fun c => Cert.Spec.resAmax (m ((c.tc : Thread Cert.KernelIdeal.nD Cert.KernelIdeal.τ).loc Cert.KernelIdeal.main_arg0)),
    fun c => Cert.Spec.resCodes Cert.KernelIdeal.Hand.kin (m ((c.tc : Thread Cert.KernelIdeal.nD Cert.KernelIdeal.τ).loc Cert.KernelIdeal.main_arg0)),
    fun c => Cert.Spec.resScales Cert.KernelIdeal.Hand.ksc (m ((c.tc : Thread Cert.KernelIdeal.nD Cert.KernelIdeal.τ).loc Cert.KernelIdeal.main_arg0)), ?_, ?_⟩
  · refine θ_run_mono (θ_run_and (Cert.KernelIdeal.Hand.run_results m g) (Cert.KernelIdeal.Hand.frame m g)) fun r hr c => ?_
    obtain ⟨r1, r2, r3, r4, r5⟩ := hr.1 c
    exact ⟨r1, r2, r3, r4, r5, hr.2.1 c⟩
  · refine θ_run_mono (θ_run_and (Cert.ReferenceIdeal.Hand.run_results m' g') (Cert.ReferenceIdeal.Gen.frame m' g')) fun r hr c => ?_
    obtain ⟨r1, r2, r3, r4, r5⟩ := hr.1 c
    obtain ⟨h0, h1, h2, h3, h4, h5⟩ := hagree c
    have hs := scales _ (@Cert.Pre_scales_in_range.inRange Cert.Pre_scales_in_range.facts _ _ _ _ _ _ (hpre c))
    rw [h0, h3, h4] at r1
    rw [h0, h1, h2, h5] at r2
    rw [h0] at r3 r4 r5
    exact ⟨r1.trans (Cert.Spec.resDx_congr hs _ _).symm, r2.trans (Cert.Spec.resMg_congr hs _ _ _).symm, r3,
      r4.trans (Cert.Spec.resCodes_congr hs).symm, r5.trans (Cert.Spec.resScales_congr hs).symm, hr.2.1 c⟩

theorem claim : Cert.Claim := ⟨Cert.Kernel.Gen.facts, Cert.KernelIdeal.Gen.facts, Cert.ReferenceIdeal.Gen.facts, Cert.Pre_scales_in_range.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, results_equal⟩

end Cert.Proof

end
